-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S262144x256 : Shape := ⟨2, ![262144, 256]⟩
abbrev S61440x256 : Shape := ⟨2, ![61440, 256]⟩
abbrev S128x256 : Shape := ⟨2, ![128, 256]⟩
abbrev S_ : Shape := ⟨0, ![]⟩
abbrev S1x16 : Shape := ⟨2, ![1, 16]⟩
abbrev S16 : Shape := ⟨1, ![16]⟩
abbrev S200704x256 : Shape := ⟨2, ![200704, 256]⟩
abbrev S4096x256 : Shape := ⟨2, ![4096, 256]⟩

abbrev nBuf : Table → Nat
  | .hbm => 5
  | .local .tc .vmem => 6
  | .local .scVector .vmem => 2
  | _ => 0

abbrev bufTy : (tb : Table) → Fin (nBuf tb) → BufTy
  | .hbm, ⟨0, _⟩ => ⟨S262144x256, .f32⟩
  | .hbm, ⟨1, _⟩ => ⟨S262144x256, .f32⟩
  | .hbm, ⟨2, _⟩ => ⟨S61440x256, .f32⟩
  | .hbm, ⟨3, _⟩ => ⟨S200704x256, .f32⟩
  | .hbm, ⟨4, _⟩ => ⟨S262144x256, .f32⟩
  | .local .tc .vmem, ⟨0, _⟩ => ⟨S4096x256, .f32⟩
  | .local .tc .vmem, ⟨1, _⟩ => ⟨S4096x256, .f32⟩
  | .local .tc .vmem, ⟨2, _⟩ => ⟨S4096x256, .f32⟩
  | .local .tc .vmem, ⟨3, _⟩ => ⟨S4096x256, .f32⟩
  | .local .tc .vmem, ⟨4, _⟩ => ⟨S4096x256, .f32⟩
  | .local .tc .vmem, ⟨5, _⟩ => ⟨S4096x256, .f32⟩
  | .local .scVector .vmem, ⟨0, _⟩ => ⟨S128x256, .f32⟩
  | .local .scVector .vmem, ⟨1, _⟩ => ⟨S128x256, .f32⟩
  | _, _ => ⟨S262144x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c15_i32 : BitVec 32 := 15#32
  let v3 : BitVec 32 := Scalar.addi c0_i32 c15_i32
  let c1_i32 : BitVec 32 := 1#32
  ⟨c0_i32, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1920_i32 : BitVec 32 := 1920#32
  let v2 : BitVec 32 := Scalar.muli v1 c1920_i32
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v4 : BitVec 32 := Scalar.muli arg7 c1_i32_1
  let v5 : BitVec 32 := Scalar.addi c0_i32_2 v4
  let c128_i32 : BitVec 32 := 128#32
  let v6 : BitVec 32 := Scalar.muli v5 c128_i32
  let v7 : BitVec 32 := Scalar.addi v2 v6
  let c0_i32_7_r0 : BitVec 32 := 0#32
  ![v7.toNat, 0]
@[reducible] def k0_t2_loop : Scf.Loop 32 :=
  let c0_i32_3 : BitVec 32 := 0#32
  let c128_i32_4 : BitVec 32 := 128#32
  let v8 : BitVec 32 := Scalar.addi c0_i32_3 c128_i32_4
  let c1_i32_5 : BitVec 32 := 1#32
  ⟨c0_i32_3, v8, c1_i32_5⟩
def k0_off2 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v11 : Index := Scalar.indexCast v10
  let c0 : Index := 0#32
  ![v11.toNat, 0]
def k0_off3 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v22 : Index := Scalar.indexCast v10
  let c16 : Index := 16#32
  ![v22.toNat, 16]
def k0_off4 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v33 : Index := Scalar.indexCast v10
  let c32 : Index := 32#32
  ![v33.toNat, 32]
def k0_off5 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v44 : Index := Scalar.indexCast v10
  let c48 : Index := 48#32
  ![v44.toNat, 48]
def k0_off6 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v55 : Index := Scalar.indexCast v10
  let c64 : Index := 64#32
  ![v55.toNat, 64]
def k0_off7 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v66 : Index := Scalar.indexCast v10
  let c80 : Index := 80#32
  ![v66.toNat, 80]
def k0_off8 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v77 : Index := Scalar.indexCast v10
  let c96 : Index := 96#32
  ![v77.toNat, 96]
def k0_off9 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v88 : Index := Scalar.indexCast v10
  let c112 : Index := 112#32
  ![v88.toNat, 112]
def k0_off10 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v99 : Index := Scalar.indexCast v10
  let c128 : Index := 128#32
  ![v99.toNat, 128]
def k0_off11 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v110 : Index := Scalar.indexCast v10
  let c144 : Index := 144#32
  ![v110.toNat, 144]
def k0_off12 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v121 : Index := Scalar.indexCast v10
  let c160 : Index := 160#32
  ![v121.toNat, 160]
def k0_off13 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v132 : Index := Scalar.indexCast v10
  let c176 : Index := 176#32
  ![v132.toNat, 176]
def k0_off14 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v143 : Index := Scalar.indexCast v10
  let c192 : Index := 192#32
  ![v143.toNat, 192]
def k0_off15 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v154 : Index := Scalar.indexCast v10
  let c208 : Index := 208#32
  ![v154.toNat, 208]
def k0_off16 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v165 : Index := Scalar.indexCast v10
  let c224 : Index := 224#32
  ![v165.toNat, 224]
def k0_off17 (k0_t2 : Fin k0_t2_loop.trips) : Fin 2 → Nat :=
  let c0_i32_8 : BitVec 32 := 0#32
  let c0_i32_3 : BitVec 32 := 0#32
  let c1_i32_5 : BitVec 32 := 1#32
  let arg8 : BitVec 32 := Scf.iv c0_i32_3 c1_i32_5 k0_t2
  let c1_i32_7 : BitVec 32 := 1#32
  let v9 : BitVec 32 := Scalar.muli arg8 c1_i32_7
  let v10 : BitVec 32 := Scalar.addi c0_i32_8 v9
  let v176 : Index := Scalar.indexCast v10
  let c240 : Index := 240#32
  ![v176.toNat, 240]
def k0_off18 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1920_i32 : BitVec 32 := 1920#32
  let v2 : BitVec 32 := Scalar.muli v1 c1920_i32
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v4 : BitVec 32 := Scalar.muli arg7 c1_i32_1
  let v5 : BitVec 32 := Scalar.addi c0_i32_2 v4
  let c128_i32 : BitVec 32 := 128#32
  let v6 : BitVec 32 := Scalar.muli v5 c128_i32
  let v7 : BitVec 32 := Scalar.addi v2 v6
  let c0_i32_7_r2 : BitVec 32 := 0#32
  ![v7.toNat, 0]
abbrev grid1 : Pipeline.Grid := ⟨1, ![49], ![false]⟩

def cc1_transform_0 (i : grid1.Coords) : Fin 2 → Nat :=
  let arg0 : BitVec 32 := BitVec.ofNat 32 (i 0).val
  let c15_i32 : BitVec 32 := 15#32
  let v0 : BitVec 32 := Scalar.addi arg0 c15_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c15_i32 : BitVec 32 := 15#32
  let v0 : BitVec 32 := Scalar.addi arg0 c15_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S262144x256 : Shape := ⟨2, ![262144, 256]⟩

abbrev nBuf : Space → Nat
  | .hbm => 3
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Setup.lean ====
/-
  The program as the launch theorem sees it, and the names every other module uses for its arrays, its threads and
  the resource algebra.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The configuration -/

/-- The labels of the program with its TensorCore pipeline's entry. -/
abbrev ΛP : Labels := Pipeline.Sig Λ₀ (Fin 1) fun p => (pcfgs (F := F) p).Adm
/-- The one SparseCore call. -/
abbrev K : SparseCore.Cfg τ sig (ΛP (F := F)) 1 := sc (F := F)
/-- The bodies below the SparseCore call: the tile kernel's and the pipeline's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipeline's rounds, and the local transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds, the left factor of the right factor. -/
def EP : Emb UP (MT nD τ sig (HIx 1) (Elt F) ℕ UU ℕ) := (Emb.inl : Emb UP (UP × Counters)).trans embR

/-- The pipeline's part of the resource algebra lies in the user's. -/
instance EP_landsIn : (EP : Emb UP 𝕄).LandsIn (upEmb : UEmb _ 𝕄) := by unfold EP; infer_instance

/-! ## Arrays, tiles and their buffers -/

/-- The arrays of the program on a device. -/
abbrev xLoc (d : Dev nD) : Loc nD τ sig := (SparseCore.T d).loc main_arg0
abbrev yLoc (d : Dev nD) : Loc nD τ sig := (SparseCore.T d).loc main_arg1
abbrev oLoc (d : Dev nD) : Loc nD τ sig := (SparseCore.T d).loc main_v0
abbrev pLoc (d : Dev nD) : Loc nD τ sig := (SparseCore.T d).loc main_v1
abbrev rLoc (d : Dev nD) : Loc nD τ sig := (SparseCore.T d).loc main_v2

/-- The SparseCore and the tile a pair of grid coordinates names, and its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Cert.Proof.Sum

end
-- ==== Proof.TcBody.lean ====
/-
  The TensorCore kernel's body: it writes the sum of its two staging blocks to the third.
-/
module

public import proofs.«01_k».proof.Proof.Setup
public import Idealize.ShloMosaic.Lib.Pipeline.Value
public import Idealize.ShloMosaic.Lib.Pipeline.FrameBody

@[expose] public section

noncomputable section

namespace Cert.Proof.Sum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The whole block of a staging buffer. -/
theorem zero_off : (![0, 0] : Fin 2 → Nat) = fun _ => 0 := funext fun a => by fin_cases a <;> rfl

/-- Reading the whole block of a staging buffer moves no index. -/
theorem block_emb (j : S4096x256.Idx) :
    (Rect.unit (s := S4096x256) ![0, 0] S4096x256.size inb_S4096x256_S4096x256_0_0).emb j = j :=
  Rect.emb_eq_of_coords (Rect.unit (s := S4096x256) ![0, 0] S4096x256.size inb_S4096x256_S4096x256_0_0) j j fun a => by
    show (j a).val = (![0, 0] : Fin 2 → Nat) a + 1 * (j a).val
    rw [zero_off]
    show (j a).val = 0 + 1 * (j a).val
    omega

/-- The TensorCore body on whatever three staging buffers it is handed: the third ends at the sum of the other two,
    which are left as they were. -/
theorem add_body (d : Dev nD) (E : Set ℕ) (i : grid1.Coords)
    (M0 : Memref sig .tc .vmem S4096x256 .f32) (h0 : M0.IsWhole)
    (M1 : Memref sig .tc .vmem S4096x256 .f32) (h1 : M1.IsWhole) (M2 : Memref sig .tc .vmem S4096x256 .f32) (h2 : M2.IsWhole)
    (X0 X1 X2 : S4096x256.Idx → Elt F .f32) (Q : PUnit → sProp 𝕄) :
    iprop((owns d.tc M0 fullShare X0 ∗ owns d.tc M1 fullShare X1 ∗ owns d.tc M2 fullShare X2)
        ∗ (iprop(owns d.tc M0 fullShare X0 ∗ owns d.tc M1 fullShare X1 ∗ owns d.tc M2 fullShare (addf X0 X1)) -∗ Q ⟨⟩))
      ⊢ wp frame (wpE (defs₀ (F := F)) 𝒱₀ d.tc none) E (cc1__tc_add_body i M0 h0 M1 h1 M2 h2) Q := by
  unfold owns
  rw [cc1__tc_add_body_eq_skeleton]; unfold cc1__tc_add_body_skel
  iintro ⟨⟨⟨%f0, %hf0, H0⟩, ⟨%f1, %hf1, H1⟩, ⟨%f2, %hf2, H2⟩⟩, Hk⟩
  sl_exec
  sl_step
  iapply Hk
  isplitl [H0]
  · iexists f0; isplitr; · ipureintro; exact hf0
    iexact H0
  isplitl [H1]
  · iexists f1; isplitr; · ipureintro; exact hf1
    iexact H1
  · iexists _; isplitr; swap; · iexact H2
    ipureintro
    rw [View.readAt_eq_ld, View.readAt_eq_ld, View.ld_unit_zero zero_off, View.ld_unit_zero zero_off, hf0, hf1]
    funext j
    exact View.read_writes_cons_hit M2.view f2
      (Rect.unit (s := S4096x256) ![0, 0] S4096x256.size inb_S4096x256_S4096x256_0_0) _ [] j j (block_emb j)

end Cert.Proof.Sum

end
-- ==== Proof.Row.lean ====
/-
  One trip of a tile's innermost loop: a row of the first staging buffer becomes its sum with the same row of the second,
  sixteen lanes at a time.
-/
module

public import proofs.«01_k».proof.Proof.Setup
public import Idealize.ShloMosaic.Lib.WritesUnit
public import Idealize.ShloMosaic.Lib.Pipeline.Value

@[expose] public section

noncomputable section

namespace Cert.Proof.Sum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S262144x256 EltTy.f32)
local notation "yW" => (Memref.whole Cert.KernelIdeal.main_arg1_scv : Memref Cert.KernelIdeal.sig Kind.scVector Space.hbm Cert.KernelIdeal.S262144x256 EltTy.f32)
local notation "oW" => (Memref.whole Cert.KernelIdeal.main_v0_scv : Memref Cert.KernelIdeal.sig Kind.scVector Space.hbm Cert.KernelIdeal.S61440x256 EltTy.f32)
local notation "aW" => (Memref.whole Cert.KernelIdeal.cc0_scratch0 : Memref Cert.KernelIdeal.sig Kind.scVector Space.vmem Cert.KernelIdeal.S128x256 EltTy.f32)
local notation "bW" => (Memref.whole Cert.KernelIdeal.cc0_scratch1 : Memref Cert.KernelIdeal.sig Kind.scVector Space.vmem Cert.KernelIdeal.S128x256 EltTy.f32)

/-- The first scratch while it is summed row by row: elements of rows before `k`, and of row `k` before column `c`,
    hold the sum of the two scratches; the others still hold what was fetched. -/
def mix (A B : S128x256.Idx → Elt F .f32) (k c : ℕ) : S128x256.Idx → Elt F .f32 :=
  fun j => if (j 0).val < k ∨ ((j 0).val = k ∧ (j 1).val < c) then FloatOps.addf (φ := .f32) (A j) (B j) else A j

/-- A row is done when its 256 columns are. -/
theorem mix_row_end (A B : S128x256.Idx → Elt F .f32) (k : ℕ) : mix A B k 256 = mix A B (k + 1) 0 := by
  funext j
  have hj : (j 1).val < 256 := (j 1).isLt
  unfold mix
  congr 1
  apply propext
  omega

/-- What the kernel stores over sixteen lanes: their sum, elementwise. -/
abbrev laneSum (a b : S1x16.Idx → Elt F .f32) : S1x16.Idx → Elt F .f32 :=
  shapeCast S1x16 (addf (F := F) (φ := .f32) (shapeCast S16 a shapeCasts_S1x16_S16) (shapeCast S16 b shapeCasts_S1x16_S16)) shapeCasts_S16_S1x16

/-- The reshapes around the sum cancel. -/
theorem laneSum_apply (a b : S1x16.Idx → Elt F .f32) (x : S1x16.Idx) : laneSum a b x = FloatOps.addf (φ := .f32) (a x) (b x) := by
  have ha := congrFun (shapeCast_shapeCast a shapeCasts_S1x16_S16 shapeCasts_S16_S1x16) x
  have hb := congrFun (shapeCast_shapeCast b shapeCasts_S1x16_S16 shapeCasts_S16_S1x16) x
  exact congrArg₂ (FloatOps.addf (φ := .f32)) ha hb

/-- One group of sixteen lanes: storing the sum of the lanes at row `k`, columns `c` to `c + 15`, as the row held them, read from the two
    scratches, moves the boundary between summed and unsummed elements on by sixteen columns. -/
theorem lanes_step (A B : S128x256.Idx → Elt F .f32) (k c : ℕ) (f : S128x256.Idx → Elt F .f32)
    (l : List (View.Piece (Elt F) S128x256 .f32)) {off : Fin S128x256.rank → ℕ}
    (inb : ∀ a, off a + S1x16.size a ≤ S128x256.size a) (w : S1x16.Idx → Elt F .f32)
    (h : (aW).view.writes (Elt F) f l = mix A B k c) (heq : off = ![k, c])
    (hw : w = laneSum ((aW).view.readAt (Elt F) (Rect.unit off S1x16.size inb).toLoadRect (mix A B k 0))
      ((bW).view.readAt (Elt F) (Rect.unit off S1x16.size inb).toLoadRect B)) :
    (aW).view.writes (Elt F) f ((⟨Rect.unit off S1x16.size inb, w⟩ : View.Piece (Elt F) S128x256 .f32) :: l) = mix A B k (c + 16) := by
  subst hw
  funext j
  have key := View.read_writes_cons_unit (aW).view f inb (laneSum ((aW).view.readAt (Elt F) (Rect.unit off S1x16.size inb).toLoadRect (mix A B k 0))
      ((bW).view.readAt (Elt F) (Rect.unit off S1x16.size inb).toLoadRect B)) l j heq
  refine Eq.trans key ?_
  split
  · next hj =>
    rw [laneSum_apply]
    have h0 := hj 0
    have h1 := hj 1
    have e : (Rect.unit off S1x16.size inb).toLoadRect.idx (Rect.unitLocal (s := S128x256) (off := ![k, c]) (size := S1x16.size) j hj) = j := by
      subst heq
      funext a
      apply Fin.ext
      show ![k, c] a + 1 * (Rect.unitLocal (s := S128x256) (off := ![k, c]) (size := S1x16.size) j hj a).val = (j a).val
      rw [Rect.unitLocal_val]
      have := hj a
      omega
    have ea : (aW).view.readAt (Elt F) (Rect.unit off S1x16.size inb).toLoadRect (mix A B k 0)
        (Rect.unitLocal (s := S128x256) (off := ![k, c]) (size := S1x16.size) j hj) = mix A B k 0 j := congrArg (mix A B k 0) e
    have eb : (bW).view.readAt (Elt F) (Rect.unit off S1x16.size inb).toLoadRect B
        (Rect.unitLocal (s := S128x256) (off := ![k, c]) (size := S1x16.size) j hj) = B j := congrArg B e
    rw [ea, eb]
    have h0' : k ≤ (j 0).val ∧ (j 0).val < k + 1 := h0
    have h1' : c ≤ (j 1).val ∧ (j 1).val < c + 16 := h1
    unfold mix
    rw [if_neg (by omega), if_pos (by omega)]
  · next hj =>
    rw [h]
    show mix A B k c j = mix A B k (c + 16) j
    unfold mix
    congr 1
    apply propext
    have hn : ¬ (k ≤ (j 0).val ∧ (j 0).val < k + 1 ∧ c ≤ (j 1).val ∧ (j 1).val < c + 16) := fun hh => hj (fun a => by
      match a with
      | 0 => exact ⟨hh.1, hh.2.1⟩
      | 1 => exact ⟨hh.2.2.1, hh.2.2.2⟩)
    omega

/-- One trip of the inner loop sums one row of the two scratches into the first. -/
theorem row_step (d : Dev nD) (L : grid0.Coords) (A B : S128x256.Idx → Elt F .f32) (t : Fin k0_t2_loop.trips) :
    iprop(((aW).view.loc (thr d L) ↦{fullShare} mix A B t.val 0) ∗ ((bW).view.loc (thr d L) ↦{fullShare} B))
      ⊢ wp frame (wpE (defs₀ (F := F)) 𝒱₀ (thr d L) none) Set.univ
          (k0_t2_body L xW (Memref.isWhole_whole _) yW (Memref.isWhole_whole _) oW (Memref.isWhole_whole _)
            aW (Memref.isWhole_whole _) bW (Memref.isWhole_whole _) cc0_scoped0 cc0_scoped1 cc0_scoped2 t ())
          fun _ => (iprop(((aW).view.loc (thr d L) ↦{fullShare} mix A B (t.val + 1) 0) ∗ ((bW).view.loc (thr d L) ↦{fullShare} B)) : sProp 𝕄) := by
  iintro ⟨Ha, Hb⟩
  sl_unfold [k0_t2_body]
  sl_exec
  sl_step
  isplitl [Ha]
  · iapply (Entails.of_eq ?_)
    swap; · iexact Ha
    congr 1
    rw [← mix_row_end]
    refine lanes_step A B t.val 240 _ _ _ _ ?_ (k0_off17_eq t) rfl
    refine lanes_step A B t.val 224 _ _ _ _ ?_ (k0_off16_eq t) rfl
    refine lanes_step A B t.val 208 _ _ _ _ ?_ (k0_off15_eq t) rfl
    refine lanes_step A B t.val 192 _ _ _ _ ?_ (k0_off14_eq t) rfl
    refine lanes_step A B t.val 176 _ _ _ _ ?_ (k0_off13_eq t) rfl
    refine lanes_step A B t.val 160 _ _ _ _ ?_ (k0_off12_eq t) rfl
    refine lanes_step A B t.val 144 _ _ _ _ ?_ (k0_off11_eq t) rfl
    refine lanes_step A B t.val 128 _ _ _ _ ?_ (k0_off10_eq t) rfl
    refine lanes_step A B t.val 112 _ _ _ _ ?_ (k0_off9_eq t) rfl
    refine lanes_step A B t.val 96 _ _ _ _ ?_ (k0_off8_eq t) rfl
    refine lanes_step A B t.val 80 _ _ _ _ ?_ (k0_off7_eq t) rfl
    refine lanes_step A B t.val 64 _ _ _ _ ?_ (k0_off6_eq t) rfl
    refine lanes_step A B t.val 48 _ _ _ _ ?_ (k0_off5_eq t) rfl
    refine lanes_step A B t.val 32 _ _ _ _ ?_ (k0_off4_eq t) rfl
    refine lanes_step A B t.val 16 _ _ _ _ ?_ (k0_off3_eq t) rfl
    refine lanes_step A B t.val 0 _ _ _ _ ?_ (k0_off2_eq t) rfl
    rfl
  · iexact Hb

end Cert.Proof.Sum

end
-- ==== Proof.Chunk.lean ====
/-
  One chunk of 128 rows on a tile: two copies in, the row loop, one copy out; and what the result array then holds.
-/
module

public import proofs.«01_k».proof.Proof.Row

@[expose] public section

noncomputable section

namespace Cert.Proof.Sum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S262144x256 EltTy.f32)
local notation "yW" => (Memref.whole Cert.KernelIdeal.main_arg1_scv : Memref Cert.KernelIdeal.sig Kind.scVector Space.hbm Cert.KernelIdeal.S262144x256 EltTy.f32)
local notation "oW" => (Memref.whole Cert.KernelIdeal.main_v0_scv : Memref Cert.KernelIdeal.sig Kind.scVector Space.hbm Cert.KernelIdeal.S61440x256 EltTy.f32)
local notation "aW" => (Memref.whole Cert.KernelIdeal.cc0_scratch0 : Memref Cert.KernelIdeal.sig Kind.scVector Space.vmem Cert.KernelIdeal.S128x256 EltTy.f32)
local notation "bW" => (Memref.whole Cert.KernelIdeal.cc0_scratch1 : Memref Cert.KernelIdeal.sig Kind.scVector Space.vmem Cert.KernelIdeal.S128x256 EltTy.f32)

/-- The 128 rows a tile reads from the first argument in trip `t`, the rows it reads from the second, and the rows it
    writes of the result. -/
abbrev xS (L : grid0.Coords) (t : Fin k0_t1_loop.trips) : Memref sig Kind.scVector Space.hbm S128x256 EltTy.f32 :=
  (xW).slice (Rect.unit (s := S262144x256) (k0_off1 L t) S128x256.size (k0_off1_inb L t)) (fun _ => rfl)
abbrev yS (L : grid0.Coords) (t : Fin k0_t1_loop.trips) : Memref sig Kind.scVector Space.hbm S128x256 EltTy.f32 :=
  (yW).slice (Rect.unit (s := S262144x256) (k0_off1 L t) S128x256.size (k0_off1_inb L t)) (fun _ => rfl)
abbrev oS (L : grid0.Coords) (t : Fin k0_t1_loop.trips) : Memref sig Kind.scVector Space.hbm S128x256 EltTy.f32 :=
  (oW).slice (Rect.unit (s := S61440x256) (k0_off18 L t) S128x256.size (k0_off18_inb L t)) (fun _ => rfl)

/-- An index of the SparseCore's result, as an index of the arguments: the same row and column. -/
def low (j : S61440x256.Idx) : S262144x256.Idx :=
  fun | 0 => ⟨(j 0).val, lt_of_lt_of_le (j 0).isLt (show 61440 ≤ 262144 by decide)⟩ | 1 => ⟨(j 1).val, (j 1).isLt⟩

/-- What the SparseCore's result holds in the end: the arguments' sum over their first 61440 rows. -/
def lowSum (x y : S262144x256.Idx → Elt F .f32) : S61440x256.Idx → Elt F .f32 :=
  fun j => FloatOps.addf (φ := .f32) (x (low j)) (y (low j))

/-- What a trip needs and gives back besides the output rows: the rows it reads, the two scratches, the three
    semaphores at zero, and what the tile owes. -/
def tripRes (d : Dev nD) (L : grid0.Coords) (O : CellTallies nD τ sig (HIx 1)) (W : Waits sig (HIx 1)) : sProp 𝕄 :=
  iprop(Transfers.MayWaits (thr d L) (none : HIx 1) O
    ∗ (∃ f, (aW).view.loc (thr d L) ↦{fullShare} f)
    ∗ (∃ f, (bW).view.loc (thr d L) ↦{fullShare} f)
    ∗ semVal (thr d L, SemLoc.dma cc0_scoped0.sem) 0
    ∗ semVal (thr d L, SemLoc.dma cc0_scoped1.sem) 0
    ∗ semVal (thr d L, SemLoc.dma cc0_scoped2.sem) 0
    ∗ ∃ W', ⌜∀ p ∈ W', p ∈ W ∨ p.2 = none⌝ ∗ owes (thr d L) O W')

/-- The inner loop's invariant before trip `k`: the rows before `k` of the first scratch are summed. -/
def rowInv (d : Dev nD) (L : grid0.Coords) (A B : S128x256.Idx → Elt F .f32) (k : ℕ) (_ : PUnit) : sProp 𝕄 :=
  iprop(((aW).view.loc (thr d L) ↦{fullShare} mix A B k 0) ∗ ((bW).view.loc (thr d L) ↦{fullShare} B))

/-- The rows read and the rows written in a trip are the same rows. -/
theorem xS_emb (L : grid0.Coords) (t : Fin k0_t1_loop.trips) (j : S128x256.Idx) : (xS L t).view.emb j = low ((oS L t).view.emb j) := by
  have e1 := k0_off1_eq L t
  have e18 := k0_off18_eq L t
  funext a
  apply Fin.ext
  match a with
  | 0 =>
    show k0_off1 L t 0 + 1 * (j 0).val = k0_off18 L t 0 + 1 * (j 0).val
    rw [e1, e18]
  | 1 =>
    show k0_off1 L t 1 + 1 * (j 1).val = k0_off18 L t 1 + 1 * (j 1).val
    rw [e1, e18]

/-- The second argument's rows are the same rows too. -/
theorem yS_emb (L : grid0.Coords) (t : Fin k0_t1_loop.trips) (j : S128x256.Idx) : (yS L t).view.emb j = low ((oS L t).view.emb j) :=
  xS_emb L t j

/-- The inner loop runs over the 128 rows of a scratch. -/
theorem rows_eq : k0_t2_loop.trips = 128 := by decide

/-- The first scratch, every row summed and written out, is the sum's rows of the trip. -/
theorem chunk_value (L : grid0.Coords) (t : Fin k0_t1_loop.trips) (x y : S262144x256.Idx → Elt F .f32) (g : S61440x256.Idx → Elt F .f32)
    (w : S128x256.Idx → Elt F .f32)
    (hw : w = mix ((xS L t).view.read (Elt F) x) ((yS L t).view.read (Elt F) y) k0_t2_loop.trips 0)
    (i : S61440x256.Idx) (hi : i ∈ (oS L t).view.set) :
    (oS L t).view.writes (Elt F) g [(⟨Rect.whole S128x256, w⟩ : View.Piece (Elt F) S128x256 .f32)] i = lowSum x y i := by
  obtain ⟨j, -, rfl⟩ := Finset.mem_map.mp hi
  have key := View.read_writes_cons_hit (oS L t).view g (Rect.whole S128x256) w [] j j (Rect.emb_whole_apply S128x256 j)
  refine Eq.trans key ?_
  subst hw
  have hj : (j 0).val < k0_t2_loop.trips := by rw [rows_eq]; exact (j 0).isLt
  unfold mix lowSum
  rw [if_pos (Or.inl hj)]
  exact congrArg₂ (FloatOps.addf (φ := .f32)) (congrArg x (xS_emb L t j)) (congrArg y (yS_emb L t j))

/-- Before the first row is summed the first scratch holds what was fetched. -/
theorem mix_zero (A B : S128x256.Idx → Elt F .f32) : mix A B 0 0 = A := by
  funext j
  unfold mix
  rw [if_neg (by omega)]

/-- One trip of the tile's loop: fetch 128 rows of both arguments, add them, and write the sum out. -/
theorem chunk_step (d : Dev nD) (L : grid0.Coords) (x y : S262144x256.Idx → Elt F .f32) (g : S61440x256.Idx → Elt F .f32)
    (O : CellTallies nD τ sig (HIx 1)) (W : Waits sig (HIx 1)) (t : Fin k0_t1_loop.trips) :
    iprop(tripRes (F := F) d L O W
        ∗ ((xS L t).view.loc (thr d L) ↦[(xS L t).view.set]{fullShare} x)
        ∗ ((yS L t).view.loc (thr d L) ↦[(yS L t).view.set]{fullShare} y)
        ∗ ((oS L t).view.loc (thr d L) ↦[(oS L t).view.set]{fullShare} g))
      ⊢ wp frame (wpE (defs₀ (F := F)) 𝒱₀ (thr d L) none) Set.univ
          (k0_t1_body L xW (Memref.isWhole_whole _) yW (Memref.isWhole_whole _) oW (Memref.isWhole_whole _)
            aW (Memref.isWhole_whole _) bW (Memref.isWhole_whole _) cc0_scoped0 cc0_scoped1 cc0_scoped2 t ())
          fun _ => iprop(tripRes (F := F) d L O W
            ∗ ((xS L t).view.loc (thr d L) ↦[(xS L t).view.set]{fullShare} x)
            ∗ ((yS L t).view.loc (thr d L) ↦[(yS L t).view.set]{fullShare} y)
            ∗ ((oS L t).view.loc (thr d L) ↦[(oS L t).view.set]{fullShare} lowSum x y)) := by
  unfold tripRes
  iintro ⟨⟨Hmw, ⟨%fa, Ha⟩, ⟨%fb, Hb⟩, Hs0, Hs1, Hs2, %W', %hW', HO⟩, Hx, Hy, Ho⟩
  sl_unfold [k0_t1_body]
  sl_exec (disch := exact View.amount_pos _ _ (show 0 < S128x256.numel by decide))
  sl_for (rowInv d L ((xS L t).view.read (Elt F) x) ((yS L t).view.read (Elt F) y)) $$ [Ha Hb]
  case region =>
    intro k _
    exact row_step d L _ _ k
  · unfold rowInv
    rw [mix_zero]
    isplitl [Ha]
    · iapply (Entails.of_eq ?_)
      swap; · iexact Ha
      congr 1
      exact View.write_whole_univ _ _ _
    · iapply (Entails.of_eq ?_)
      swap; · iexact Hb
      congr 1
      exact View.write_whole_univ _ _ _
  iintro %_ HI
  unfold rowInv
  icases HI with ⟨Ha, Hb⟩
  sl_exec (disch := exact View.amount_pos _ _ (show 0 < S128x256.numel by decide))
  sl_step
  isplitl [Hmw Ha Hb Hs0 Hs1 Hs2 HO]
  · isplitl [Hmw]; · iexact Hmw
    isplitl [Ha]; · iexists _; iexact Ha
    isplitl [Hb]; · iexists _; iexact Hb
    isplitl [Hs0]; · iexact Hs0
    isplitl [Hs1]; · iexact Hs1
    isplitl [Hs2]; · iexact Hs2
    iexists _; isplitr
    swap; · iexact HO
    ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp
  isplitl [Hx]; · iexact Hx
  isplitl [Hy]; · iexact Hy
  iapply (Entails.of_eq (pointsTo_congr (chunk_value L t x y g _ rfl)))
  iexact Ho

end Cert.Proof.Sum

end
-- ==== Proof.Region.lean ====
/-
  The TensorCore pipeline's blocks: what each holds before and after a grid point, and that the flushed blocks make up the
  sum of the high rows.
-/
module

public import proofs.«01_k».proof.Proof.TcBody
public import proofs.«01_k».proof.Proof.Chunk
public import Idealize.ShloMosaic.Lib.Pipeline.RegionArrays

@[expose] public section

noncomputable section

namespace Cert.Proof.Sum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Pipeline (Dat BodyObligation)

variable (m : (ℓ : Loc nD τ sig) → Buf (Elt F) ℓ)

/-- Where a row of the TensorCore's result lies in the arguments: past the rows of the SparseCores. -/
def high (j : S200704x256.Idx) : S262144x256.Idx := fun a =>
  match a with
  | ⟨0, _⟩ => ⟨(j 0).val + 61440, by have h : (j 0).val < 200704 := (j 0).isLt; show (j 0).val + 61440 < 262144; omega⟩
  | ⟨1, _⟩ => ⟨(j 1).val, (j 1).isLt⟩

/-- The sum of the arguments on the TensorCore's rows. -/
def highSum (x y : S262144x256.Idx → Elt F .f32) : S200704x256.Idx → Elt F .f32 := fun j =>
  FloatOps.addf (φ := .f32) (x (high j)) (y (high j))

/-- The block of the first argument that a grid point reads. -/
def xBlk (d : Dev nD) (t : Fin cfg1.N) : S4096x256.Idx → Elt F .f32 := ((cfg1.win 0).blk t).view.read (Elt F) (m (xLoc d))
/-- The block of the second argument that a grid point reads. -/
def yBlk (d : Dev nD) (t : Fin cfg1.N) : S4096x256.Idx → Elt F .f32 := ((cfg1.win 1).blk t).view.read (Elt F) (m (yLoc d))

/-- The pipeline's data on a device: the arrays as the launch finds them; after a point the two staged blocks of the
    arguments and their sum; no invariant of its own, nothing owed. -/
def dats (_ : Fin 1) (d : Dev nD) : Dat τ (Elt F) (HIx 1) ℕ UU ℕ cfg1 d where
  A w := m (d.tc.loc (Pipeline.arrRef spec1 w))
  after w t := match w with
    | ⟨0, _⟩ => xBlk m d t
    | ⟨1, _⟩ => yBlk m d t
    | ⟨2, _⟩ => addf (xBlk m d t) (yBlk m d t)
  Φ _ := iprop(emp)
  q _ := fullShare
  owed _ := 0

/-- The first window's buffer holds the first argument's block when the body runs. -/
theorem before_x (d : Dev nD) (t : Fin cfg1.N) (z : (cfg1.win 0).block.Idx → Elt F (cfg1.win 0).elt) :
    (dats m 0 d).before 0 t z = xBlk m d t :=
  (dats m 0 d).before_fetched 0 t (fetch1_0 t) z

/-- The second window's buffer holds the second argument's block when the body runs. -/
theorem before_y (d : Dev nD) (t : Fin cfg1.N) (z : (cfg1.win 1).block.Idx → Elt F (cfg1.win 1).elt) :
    (dats m 0 d).before 1 t z = yBlk m d t :=
  (dats m 0 d).before_fetched 1 t (fetch1_1 t) z

/-- At every grid point the body leaves the staging buffers as the data say. -/
theorem body_obligation (d : Dev nD) :
    BodyObligation (dats m 0 d) (defs₀ (F := F)) 𝒱₀ (none : HIx 1) Set.univ := fun t => by
  rw [bigSep_W1, bigSep_W1]
  simp only
  rw [show (dats m 0 d).Φ t.succ = (dats m 0 d).Φ t.castSucc from rfl,
    show (dats m 0 d).owesAt (none : HIx 1) t.succ = (dats m 0 d).owesAt (none : HIx 1) t.castSucc from rfl]
  iintro ⟨HΦ, HO, ⟨%z0, H0⟩, ⟨%z1, H1⟩, ⟨%z2, H2⟩⟩
  rw [before_x, before_y]
  iapply (add_body (F := F) d Set.univ (grid1.coords t) _ (hstage1_0 ((cfg1.slots t 0).cast nbuf1_0)) _ (hstage1_1 ((cfg1.slots t 1).cast nbuf1_1))
    _ (hstage1_2 ((cfg1.slots t 2).cast nbuf1_2)) (xBlk m d t) (yBlk m d t) ((dats m 0 d).before 2 t z2) _)
  isplitl [H0 H1 H2]
  · isplitl [H0]; · iexact H0
    isplitl [H1]; · iexact H1
    iexact H2
  iintro ⟨H0, H1, H2⟩
  isplitl [HΦ]; · iexact HΦ
  isplitl [HO]; · iexact HO
  isplitl [H0]; · iexact H0
  isplitl [H1]; · iexact H1
  iexact H2

/-- The blocks a point reads and writes: block `t` of the result, the block fifteen further on of the arguments. -/
theorem index_eq : ∀ t : Fin grid1.N, win1_0.index t = ![t.val + 15, 0] ∧ win1_1.index t = ![t.val + 15, 0] ∧ win1_2.index t = ![t.val, 0] := by
  decide +kernel

/-- Where element `j` of a point's block of the result lies in the result. -/
theorem emb_out (t : Fin cfg1.N) (j : S4096x256.Idx) (a : Fin 2) :
    ((((cfg1.win 2).blk t).view.emb j : S200704x256.Idx) a).val = (![t.val * 4096, 0] : Fin 2 → ℕ) a + (j a).val := by
  show win1_2.index t a * S4096x256.size a + 1 * (j a).val = _
  rw [(index_eq t).2.2]
  match a with
  | 0 => show t.val * 4096 + 1 * (j 0).val = t.val * 4096 + (j 0).val; omega
  | 1 => show 0 * 256 + 1 * (j 1).val = 0 + (j 1).val; omega

/-- Element `j` of a point's block of the first argument is the one under element `j` of its block of the result. -/
theorem emb_x (t : Fin cfg1.N) (j : S4096x256.Idx) :
    (((cfg1.win 0).blk t).view.emb j : S262144x256.Idx) = high (((cfg1.win 2).blk t).view.emb j) := by
  funext a
  apply Fin.ext
  have e : ((((cfg1.win 0).blk t).view.emb j : S262144x256.Idx) a).val = win1_0.index t a * S4096x256.size a + 1 * (j a).val := rfl
  refine e.trans ?_
  rw [(index_eq t).1]
  clear e
  match a with
  | 0 =>
    refine Eq.trans ?_ (congrArg (· + 61440) (emb_out t j 0)).symm
    show (t.val + 15) * 4096 + 1 * (j 0).val = t.val * 4096 + (j 0).val + 61440
    omega
  | 1 =>
    refine Eq.trans ?_ (emb_out t j 1).symm
    show 0 * 256 + 1 * (j 1).val = 0 + (j 1).val
    omega

/-- The two arguments' blocks lie alike. -/
theorem emb_y (t : Fin cfg1.N) (j : S4096x256.Idx) :
    (((cfg1.win 1).blk t).view.emb j : S262144x256.Idx) = ((cfg1.win 0).blk t).view.emb j := by
  funext a
  apply Fin.ext
  show win1_1.index t a * S4096x256.size a + 1 * (j a).val = win1_0.index t a * S4096x256.size a + 1 * (j a).val
  rw [(index_eq t).1, (index_eq t).2.1]

/-- The rows of the TensorCore's result that a grid point writes. -/
theorem mem_blk (t : Fin cfg1.N) (i : S200704x256.Idx) :
    i ∈ ((cfg1.win 2).blk t).view.set ↔ t.val * 4096 ≤ (i 0 : Nat) ∧ (i 0 : Nat) < t.val * 4096 + 4096 := by
  constructor
  · intro h
    obtain ⟨j, -, rfl⟩ := Finset.mem_map.mp h
    have h' : ((((cfg1.win 2).blk t).view.emb j : S200704x256.Idx) 0).val = t.val * 4096 + (j 0).val := emb_out t j 0
    have hj : (j 0).val < 4096 := (j 0).isLt
    omega
  · intro h
    refine Finset.mem_map.mpr ⟨fun a => match a with
      | ⟨0, _⟩ => ⟨(i 0).val - t.val * 4096, by show (i 0).val - t.val * 4096 < 4096; omega⟩
      | ⟨1, _⟩ => ⟨(i 1).val, (i 1).isLt⟩, Finset.mem_univ _, ?_⟩
    funext a
    apply Fin.ext
    refine (emb_out t _ a).trans ?_
    match a with
    | 0 => show t.val * 4096 + ((i 0).val - t.val * 4096) = (i 0).val; omega
    | 1 => show 0 + (i 1).val = (i 1).val; omega

/-- What a point writes back is its block of the sum. -/
theorem flushed_eq (d : Dev nD) (t : Fin cfg1.N) :
    (dats m 0 d).flushed 2 t = ((cfg1.win 2).blk t).view.read (Elt F) (highSum (m (xLoc d)) (m (yLoc d))) := by
  show (cfg1.win 2).cut (grid1.coords t) ((dats m 0 d).after 2 t) = _
  funext j
  show addf (xBlk m d t) (yBlk m d t) j = _
  show FloatOps.addf (φ := .f32) (m (xLoc d) (((cfg1.win 0).blk t).view.emb j)) (m (yLoc d) (((cfg1.win 1).blk t).view.emb j))
    = FloatOps.addf (φ := .f32) (m (xLoc d) (high (((cfg1.win 2).blk t).view.emb j))) (m (yLoc d) (high (((cfg1.win 2).blk t).view.emb j)))
  rw [emb_y, emb_x]

/-- Every row of the TensorCore's result is some point's. -/
theorem cover (i : S200704x256.Idx) : ∃ t : Fin cfg1.N, (cfg1.win 2).flush t = true ∧ i ∈ ((cfg1.win 2).blk t).view.set := by
  have h0 : (i 0 : Nat) < 200704 := (i 0).isLt
  have hN : cfg1.N = 49 := N_1
  refine ⟨⟨(i 0 : Nat) / 4096, by omega⟩, flush1_2 _, ?_⟩
  rw [mem_blk]
  dsimp only
  omega

/-- So the TensorCore's result ends at the sum. -/
theorem final_sum (d : Dev nD) : (dats m 0 d).arrAt 2 cfg1.N = highSum (m (xLoc d)) (m (yLoc d)) :=
  (dats m 0 d).arrAt_eq_of_cover 2 (highSum (m (xLoc d)) (m (yLoc d))) (fun t _ => flushed_eq m d t) cover

end Cert.Proof.Sum

end
-- ==== Proof.TcCall.lean ====
/-
  The TensorCore call in the host program: the arrays it takes, and the sum of the high rows it leaves.
-/
module

public import proofs.«01_k».proof.Proof.Region

@[expose] public section

noncomputable section

namespace Cert.Proof.Sum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Pipeline (Dat RegionSeg)

variable (m : (ℓ : Loc nD τ sig) → Buf (Elt F) ℓ)

/-- The pipeline takes no prefetched table. -/
abbrev adm : (p : Fin 1) → (pcfgs (F := F) p).Adm := fun p => (cfgs p).toPCfg_adm

/-- Every array of the pipeline is held whole. -/
theorem share_full (d : Dev nD) (w : Fin cfg1.W) : (dats m 0 d).share w = fullShare :=
  (dats m 0 d).share_full (fun _ => rfl) w

set_option backward.isDefEq.respectTransparency.types false in
/-- The TensorCore call as a region of the program: entered with its three arrays, left with the third at the sum. -/
def region : RegionSeg (pcfgs (F := F)) adm (dats m) (none : HIx 1) defs₀ 𝒱₀ (K (F := F)).L (K (F := F)).lev 0 :=
  RegionSeg.ofArrays (pcfgs (F := F)) adm (dats m) (none : HIx 1) defs₀ 𝒱₀ (K (F := F)).L (K (F := F)).lev 0 (fun _ => 0)
    (fun _ => iprop(emp)) (fun _ => iprop(emp)) (launch1.toP (Val := Elt F)).to₀ rfl
    (fun d => (body_obligation m d).loose) (fun _ _ => rfl) (fun _ => rfl)
    (fun d => by
      iintro ⟨-, -⟩; iempintro)
    (fun d => by
      rw [show Pipeline.scopedRest (Pipeline.pin (pcfgs (F := F)) adm 0).spec d = iprop(emp) from scopedRest1_eq d]
      iintro -; isplitr <;> iempintro)
    (fun _ => 0)
    ⟨fun _ _ _ => Finset.mem_univ _, fun _ _ _ => le_refl _, fun _ _ _ h => absurd h (lt_irrefl 0)⟩
    (fun _ => iprop(emp))

/-- The pipeline's ghost state at the launch. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

/-- The pipeline's arrays, one by one. -/
theorem arrays_three (d : Dev nD) (G : (w : Fin cfg1.W) → Buf (Elt F) ((cfg1.win w).arr.view.loc d.tc)) :
    ((dats m 0 d).arrays G : sProp 𝕄)
      = iprop((xLoc d ↦{fullShare} G 0) ∗ (yLoc d ↦{fullShare} G 1) ∗ (pLoc d ↦{fullShare} G 2)) := by
  rw [Pipeline.arrays_eq cfgs (dats m) 0 d arr_whole1 (share_full m d) G, bigSep_W1]

/-- The call as the program has it is the pipeline's own entry, lifted over the SparseCore calls. -/
theorem call_lift : (SparseCore.liftProg (Q := 1) (Prog.lift (.customCall (Pipeline.entry 0) ()) :
      Prog (TpuEff nD τ sig (Elt F) (ΛP (F := F)) .tc) PUnit))
    = Prog.lift (.customCall (SparseCore.inner (Pipeline.entry 0)) ()) := rfl

/-- What the region is entered with. -/
theorem region_pre (d : Dev nD) : (region m).pre d
    = iprop(((xLoc d ↦{fullShare} m (xLoc d)) ∗ (yLoc d ↦{fullShare} m (yLoc d)) ∗ (pLoc d ↦{fullShare} m (pLoc d))) ∗ emp ∗ emp
      ∗ ∃ W, owes d.tc (0 : CellTallies nD τ sig (HIx 1)) W) := by
  have h : (region m).pre d = iprop((dats m 0 d).arrays ((dats m 0 d).arrAt · 0) ∗ emp ∗ emp
      ∗ ∃ W, owes d.tc (0 : CellTallies nD τ sig (HIx 1)) W) := rfl
  rw [h, arrays_three]
  rfl

/-- What the region leaves. -/
theorem region_post (d : Dev nD) : (region m).post d
    = iprop(((xLoc d ↦{fullShare} m (xLoc d)) ∗ (yLoc d ↦{fullShare} m (yLoc d))
        ∗ (pLoc d ↦{fullShare} highSum (m (xLoc d)) (m (yLoc d)))) ∗ emp ∗ emp
      ∗ ∃ W, owes d.tc (0 : CellTallies nD τ sig (HIx 1)) W) := by
  have h : (region m).post d = iprop((dats m 0 d).arrays ((dats m 0 d).arrAt · cfg1.N) ∗ emp ∗ emp
      ∗ ∃ W, owes d.tc (0 : CellTallies nD τ sig (HIx 1)) W) := rfl
  rw [h, arrays_three, final_sum, (dats m 0 d).arrAt_in 0 rfl, (dats m 0 d).arrAt_in 1 rfl]
  rfl

/-- The TensorCore call: from its arguments and the array of its result it runs to the result at the sum, the
    arguments as they were. -/
theorem tc_call [∀ e, Nonempty (Elt F e)] (d : Dev nD) (Q : PUnit → sProp 𝕄) :
    iprop((iprop(boundary d.tc ∗ ((xLoc d ↦{fullShare} m (xLoc d)) ∗ (yLoc d ↦{fullShare} m (yLoc d))
            ∗ (pLoc d ↦{fullShare} highSum (m (xLoc d)) (m (yLoc d)))) ∗ ∃ W, owes d.tc (0 : CellTallies nD τ sig (HIx 1)) W) -∗ Q ⟨⟩)
        ∗ boundary d.tc ∗ ((xLoc d ↦{fullShare} m (xLoc d)) ∗ (yLoc d ↦{fullShare} m (yLoc d)) ∗ (pLoc d ↦{fullShare} m (pLoc d)))
        ∗ (∃ W, owes d.tc (0 : CellTallies nD τ sig (HIx 1)) W) ∗ levAts (K (F := F)).L (K (F := F)).lev ∗ ghost (F := F) d)
      ⊢ wp frame (wpE ((K (F := F)).defs (D (F := F))) 𝒱 d.tc none) Set.univ
          (Prog.lift (.customCall (SparseCore.inner (Pipeline.entry 0)) ())) Q := by
  rw [← call_lift]
  have key := (RegionSeg.wp (U := UU) (Name := ℕ) (α := PUnit) (pcfgs (F := F)) adm (dats m) (none : HIx 1) ((launch1.toP (Val := Elt F)).cellOf_inj adm) EP defs₀ 𝒱₀
    (K (F := F)).L (K (F := F)).lev (region m) d none (fun _ h => nomatch h) (fun _ => .ret ⟨⟩) Q)
  rw [region_pre, region_post] at key
  iintro ⟨Hk, Hb, Ha, HO, Hl, Hg, Ht⟩
  iapply ((K (F := F)).wp_liftProg (D (F := F)) 𝒱 d.tc Set.univ none _ Q)
  iapply key
  isplitl [Hk]
  · iintro ⟨Hb, Ha, -, -, HO⟩
    rw [wp_ret]
    imodintro
    iapply Hk
    isplitl [Hb]; · iexact Hb
    isplitl [Ha]; · iexact Ha
    iexact HO
  isplitl [Hb]; · iexact Hb
  isplitl [Ha HO]
  · isplitl [Ha]; · iexact Ha
    isplitr; · iempintro
    isplitr; · iempintro
    iexact HO
  isplitl [Hl]; · iexact Hl
  isplitl [Hg]; · iexact Hg
  iexact Ht

end Cert.Proof.Sum

end
-- ==== Proof.Join.lean ====
/-
  The concatenation: the sum of the low rows followed by the sum of the high rows is the sum of the whole arrays.
-/
module

public import proofs.«01_k».proof.Proof.TcCall

@[expose] public section

noncomputable section

namespace Cert.Proof.Sum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.StableHlo (held wp_hlo_within)

/-- The sum of two whole arrays, element by element. -/
def total (x y : S262144x256.Idx → Elt F .f32) : S262144x256.Idx → Elt F .f32 := fun i => FloatOps.addf (φ := .f32) (x i) (y i)

/-- The sums of the two ranges of rows, one after the other, are the sum of the whole arrays. -/
theorem join_sums (x y : S262144x256.Idx → Elt F .f32) :
    concatenate S262144x256 0 [⟨S61440x256, lowSum x y⟩, ⟨S200704x256, highSum x y⟩] concatenates_S61440x256_S200704x256_S262144x256_d0
      = total x y := by
  funext j
  by_cases h : (j 0).val < 61440
  · let i : S61440x256.Idx := fun a => match a with
      | ⟨0, _⟩ => ⟨(j 0).val, h⟩
      | ⟨1, _⟩ => ⟨(j 1).val, (j 1).isLt⟩
    have e : low i = j := by
      funext a
      match a with
      | ⟨0, _⟩ => rfl
      | ⟨1, _⟩ => rfl
    refine (concatenate_pair_apply_left (t := S262144x256) 0 (lowSum x y) (highSum x y) concatenates_S61440x256_S200704x256_S262144x256_d0 j rfl i fun b => ?_).trans ?_
    · match b with
      | ⟨0, _⟩ => rfl
      | ⟨1, _⟩ => rfl
    · unfold lowSum total
      rw [e]
  · have hj : (j 0).val < 262144 := (j 0).isLt
    let i : S200704x256.Idx := fun a => match a with
      | ⟨0, _⟩ => ⟨(j 0).val - 61440, by show (j 0).val - 61440 < 200704; omega⟩
      | ⟨1, _⟩ => ⟨(j 1).val, (j 1).isLt⟩
    have e : high i = j := by
      funext a
      match a with
      | ⟨0, _⟩ => exact Fin.ext (show (j 0).val - 61440 + 61440 = (j 0).val by omega)
      | ⟨1, _⟩ => rfl
    refine (concatenate_pair_apply_right (t := S262144x256) 0 (lowSum x y) (highSum x y) concatenates_S61440x256_S200704x256_S262144x256_d0 j rfl rfl i (fun b hb => ?_) ?_).trans ?_
    · match b with
      | ⟨0, _⟩ => exact absurd rfl hb
      | ⟨1, _⟩ => rfl
    · show (j 0).val - 61440 + 61440 = (j 0).val
      omega
    · unfold highSum total
      rw [e]

variable (m : (ℓ : Loc nD τ sig) → Buf (Elt F) ℓ)

/-- The concatenation of the two results, as the program has it. -/
abbrev opJoin : HloOp τ sig (Elt F) :=
  StableHlo.binary main_v0 main_v1 main_v2 ((fun a b => concatenate S262144x256 0 [⟨S61440x256, a⟩, ⟨S200704x256, b⟩] concatenates_S61440x256_S200704x256_S262144x256_d0) : (⟨S61440x256, .f32⟩ : BufTy).Contents (Elt F) → (⟨S200704x256, .f32⟩ : BufTy).Contents (Elt F) → (⟨S262144x256, .f32⟩ : BufTy).Contents (Elt F))

/-- The three arrays that the concatenation reads or writes. -/
abbrev lowRef : DevRef τ sig := Proc.devRef .tc (main_v0 : Ref sig .tc)
abbrev highRef : DevRef τ sig := Proc.devRef .tc (main_v1 : Ref sig .tc)
abbrev outRef : DevRef τ sig := Proc.devRef .tc (main_v2 : Ref sig .tc)
abbrev joinRefs : Finset (DevRef τ sig) := {lowRef, highRef, outRef}

/-- The three arrays held, one by one. -/
theorem held_three (d : Dev nD) (W : Valuation τ sig (Elt F)) :
    (held (SparseCore.T d) joinRefs W : sProp 𝕄)
      = iprop((oLoc d ↦{fullShare} W lowRef) ∗ (pLoc d ↦{fullShare} W highRef) ∗ rLoc d ↦{fullShare} W outRef) := by
  unfold held joinRefs
  rw [SparseCore.bigSep_insert' (by decide), SparseCore.bigSep_insert' (by decide), bigSep_singleton]

/-- The device's arrays when the two calls have run. -/
def summed (d : Dev nD) : Valuation τ sig (Elt F) :=
  Function.update (Function.update (fun b => m (d, b)) lowRef (lowSum (m (xLoc d)) (m (yLoc d)))) highRef
    (highSum (m (xLoc d)) (m (yLoc d)))

/-- The valuation at the low half: the sum of the low rows. -/
theorem summed_low (d : Dev nD) : summed m d lowRef = lowSum (m (xLoc d)) (m (yLoc d)) :=
  (Function.update_of_ne (show lowRef ≠ highRef by decide) _ _).trans (Function.update_self _ _ _)
/-- The valuation at the high half: the sum of the high rows. -/
theorem summed_high (d : Dev nD) : summed m d highRef = highSum (m (xLoc d)) (m (yLoc d)) := Function.update_self _ _ _
/-- The valuation at the result: what it held at the start. -/
theorem summed_out (d : Dev nD) : summed m d outRef = m (rLoc d) :=
  (Function.update_of_ne (show outRef ≠ highRef by decide) _ _).trans (Function.update_of_ne (show outRef ≠ lowRef by decide) _ _)

/-- What the concatenation leaves in the result. -/
theorem joined_out (d : Dev nD) : (opJoin (F := F)).result (summed m d) outRef = total (m (xLoc d)) (m (yLoc d)) := by
  refine (StableHlo.binary_result _ _ _ _ _ _ _ _).trans ?_
  rw [summed_low, summed_high]
  exact join_sums _ _

/-- The concatenation: from the two results, the third array ends at the sum of the whole arrays. -/
theorem join_step (d : Dev nD) (Q : PUnit → sProp 𝕄) :
    iprop((iprop(boundary d.tc ∗ (oLoc d ↦{fullShare} lowSum (m (xLoc d)) (m (yLoc d))) ∗ (pLoc d ↦{fullShare} highSum (m (xLoc d)) (m (yLoc d)))
            ∗ (rLoc d ↦{fullShare} total (m (xLoc d)) (m (yLoc d)))) -∗ Q ⟨⟩)
        ∗ boundary d.tc ∗ (oLoc d ↦{fullShare} lowSum (m (xLoc d)) (m (yLoc d))) ∗ (pLoc d ↦{fullShare} highSum (m (xLoc d)) (m (yLoc d)))
        ∗ (rLoc d ↦{fullShare} m (rLoc d)))
      ⊢ wp frame (wpE ((K (F := F)).defs (D (F := F))) 𝒱 (SparseCore.T d) none) Set.univ
          (hlo rfl (opJoin (F := F)) (fun _ => .ret ⟨⟩)) Q := by
  iintro ⟨Hk, Hb, Hl, Hh, Ho⟩
  iapply (wp_hlo_within 𝒱 (SparseCore.T d) none Set.univ (op := opJoin (F := F)) (S := joinRefs)
    (show ({lowRef, highRef, outRef} : Finset (DevRef τ sig)) ⊆ joinRefs by decide) (V := summed m d)) $$ [Hb Hl Hh Ho]
  · isplitl [Hb]; · iexact Hb
    rw [held_three, summed_low, summed_high, summed_out]
    isplitl [Hl]; · iexact Hl
    isplitl [Hh]; · iexact Hh
    iexact Ho
  iintro ⟨Hb, Hheld⟩
  have e : (held (SparseCore.T d) joinRefs ((opJoin (F := F)).result (summed m d)) : sProp 𝕄)
      = iprop((oLoc d ↦{fullShare} lowSum (m (xLoc d)) (m (yLoc d))) ∗ (pLoc d ↦{fullShare} highSum (m (xLoc d)) (m (yLoc d)))
          ∗ rLoc d ↦{fullShare} total (m (xLoc d)) (m (yLoc d))) := by
    rw [held_three, joined_out,
      (opJoin (F := F)).result_of_not_mem (summed m d) (b := lowRef) (show lowRef ∉ ({outRef} : Finset (DevRef τ sig)) by decide),
      (opJoin (F := F)).result_of_not_mem (summed m d) (b := highRef) (show highRef ∉ ({outRef} : Finset (DevRef τ sig)) by decide),
      summed_low, summed_high]
  ihave H := (Entails.of_eq e) $$ Hheld
  rw [wp_ret]
  imodintro
  iapply Hk
  isplitl [Hb]; · iexact Hb
  iexact H

end Cert.Proof.Sum

end
-- ==== Proof.Tile.lean ====
/-
  A tile's whole task: its fifteen chunks one after another, and the heap cells it takes and gives back.
-/
module

public import proofs.«01_k».proof.Proof.Chunk

@[expose] public section

noncomputable section

namespace Cert.Proof.Sum

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S262144x256 EltTy.f32)
local notation "yW" => (Memref.whole Cert.KernelIdeal.main_arg1_scv : Memref Cert.KernelIdeal.sig Kind.scVector Space.hbm Cert.KernelIdeal.S262144x256 EltTy.f32)
local notation "oW" => (Memref.whole Cert.KernelIdeal.main_v0_scv : Memref Cert.KernelIdeal.sig Kind.scVector Space.hbm Cert.KernelIdeal.S61440x256 EltTy.f32)
local notation "aW" => (Memref.whole Cert.KernelIdeal.cc0_scratch0 : Memref Cert.KernelIdeal.sig Kind.scVector Space.vmem Cert.KernelIdeal.S128x256 EltTy.f32)
local notation "bW" => (Memref.whole Cert.KernelIdeal.cc0_scratch1 : Memref Cert.KernelIdeal.sig Kind.scVector Space.vmem Cert.KernelIdeal.S128x256 EltTy.f32)

/-- The rows of the arguments and of the result that a tile uses in trip `t`, the result's at contents `g`. -/
def chunk (d : Dev nD) (L : grid0.Coords) (x y : S262144x256.Idx → Elt F .f32) (g : S61440x256.Idx → Elt F .f32) (t : Fin k0_t1_loop.trips) : sProp 𝕄 :=
  iprop(((xS L t).view.loc (thr d L) ↦[(xS L t).view.set]{fullShare} x)
    ∗ ((yS L t).view.loc (thr d L) ↦[(yS L t).view.set]{fullShare} y)
    ∗ ((oS L t).view.loc (thr d L) ↦[(oS L t).view.set]{fullShare} g))

/-- All the rows a tile uses, the result's at contents `g`. -/
def tileRows (d : Dev nD) (L : grid0.Coords) (x y : S262144x256.Idx → Elt F .f32) (g : S61440x256.Idx → Elt F .f32) : sProp 𝕄 :=
  bigSep Finset.univ (chunk d L x y g)

/-- The outer loop's invariant before trip `k`: the result's rows of the trips before `k` hold the sum. -/
def tileInv (d : Dev nD) (L : grid0.Coords) (x y : S262144x256.Idx → Elt F .f32) (g : S61440x256.Idx → Elt F .f32)
    (O : CellTallies nD τ sig (HIx 1)) (W : Waits sig (HIx 1)) (k : ℕ) (_ : PUnit) : sProp 𝕄 :=
  iprop(tripRes (F := F) d L O W ∗ bigSep Finset.univ fun t : Fin k0_t1_loop.trips => chunk d L x y (if t.val < k then lowSum x y else g) t)

/-- The tile's three semaphores are among its own: they are them and the rest. -/
theorem ownSems_tile (d : Dev nD) (L : grid0.Coords) :
    (ownSems0 (thr d L) : sProp 𝕄)
      = iprop(semVal (thr d L, SemLoc.dma cc0_scoped0.sem) 0 ∗ semVal (thr d L, SemLoc.dma cc0_scoped1.sem) 0 ∗ semVal (thr d L, SemLoc.dma cc0_scoped2.sem) 0
          ∗ bigSep ((((ownCells (thr d L)).erase (thr d L, SemLoc.dma cc0_scoped0.sem)).erase (thr d L, SemLoc.dma cc0_scoped1.sem)).erase (thr d L, SemLoc.dma cc0_scoped2.sem))
              fun g => semVal g 0) := by
  have h0 : (SemLoc.dma cc0_scoped0.sem : SemLoc sig).isScoped .scVector = true := by decide
  have h1 : (SemLoc.dma cc0_scoped1.sem : SemLoc sig).isScoped .scVector = true := by decide
  have h2 : (SemLoc.dma cc0_scoped2.sem : SemLoc sig).isScoped .scVector = true := by decide
  have n01 : (SemLoc.dma cc0_scoped1.sem : SemLoc sig) ≠ SemLoc.dma cc0_scoped0.sem := by decide
  have n02 : (SemLoc.dma cc0_scoped2.sem : SemLoc sig) ≠ SemLoc.dma cc0_scoped0.sem := by decide
  have n12 : (SemLoc.dma cc0_scoped2.sem : SemLoc sig) ≠ SemLoc.dma cc0_scoped1.sem := by decide
  unfold SparseCore.Cfg.ownSems0
  rw [SparseCore.bigSep_erase' ((mem_ownCells (g := (thr d L, SemLoc.dma cc0_scoped0.sem))).mpr ⟨rfl, h0⟩),
    SparseCore.bigSep_erase' (Finset.mem_erase.mpr ⟨fun e => n01 (congrArg Prod.snd e), (mem_ownCells (g := (thr d L, SemLoc.dma cc0_scoped1.sem))).mpr ⟨rfl, h1⟩⟩),
    SparseCore.bigSep_erase' (Finset.mem_erase.mpr ⟨fun e => n12 (congrArg Prod.snd e), Finset.mem_erase.mpr ⟨fun e => n02 (congrArg Prod.snd e),
      (mem_ownCells (g := (thr d L, SemLoc.dma cc0_scoped2.sem))).mpr ⟨rfl, h2⟩⟩⟩)]

/-- The tile's two scratches are among its own buffers: they are them, at some contents, and the rest. -/
theorem ownBufs_tile (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- One trip keeps the outer loop's invariant. -/
theorem tile_trip (d : Dev nD) (L : grid0.Coords) (x y : S262144x256.Idx → Elt F .f32) (g : S61440x256.Idx → Elt F .f32)
    (O : CellTallies nD τ sig (HIx 1)) (W : Waits sig (HIx 1)) (t : Fin k0_t1_loop.trips) :
    tileInv d L x y g O W t.val ⟨⟩
      ⊢ wp frame (wpE (defs₀ (F := F)) 𝒱₀ (thr d L) none) Set.univ
          (k0_t1_body L xW (Memref.isWhole_whole _) yW (Memref.isWhole_whole _) oW (Memref.isWhole_whole _)
            aW (Memref.isWhole_whole _) bW (Memref.isWhole_whole _) cc0_scoped0 cc0_scoped1 cc0_scoped2 t ())
          fun r => tileInv d L x y g O W (t.val + 1) r := by
  have hs : ∀ h : ℕ → Fin k0_t1_loop.trips → S61440x256.Idx → Elt F .f32, (∀ u, u ≠ t → h t.val u = h (t.val + 1) u) →
      (bigSep (Finset.univ.erase t) (fun u => chunk d L x y (h t.val u) u) : sProp 𝕄)
        = bigSep (Finset.univ.erase t) fun u => chunk d L x y (h (t.val + 1) u) u :=
    fun h hh => bigSep_congr fun u hu => by rw [hh u (Finset.ne_of_mem_erase hu)]
  have hstep := hs (fun k u => if u.val < k then lowSum x y else g) (fun u hu => by
    have hne : u.val ≠ t.val := fun e => hu (Fin.ext e)
    show (if u.val < t.val then lowSum x y else g) = if u.val < t.val + 1 then lowSum x y else g
    congr 1
    apply propext
    omega)
  unfold tileInv
  rw [SparseCore.bigSep_erase' (Finset.mem_univ t), SparseCore.bigSep_erase' (Finset.mem_univ t), hstep,
    if_neg (Nat.lt_irrefl _), if_pos (Nat.lt_succ_self _)]
  generalize (bigSep (Finset.univ.erase t) fun u => chunk d L x y (if u.val < t.val + 1 then lowSum x y else g) u : sProp 𝕄) = R
  unfold chunk
  refine BI.Entails.trans ?_ ((BI.sep_mono_l (Q := R) (chunk_step d L x y g O W t)).trans ((wp_frame_r frame _ _).trans (wp_mono frame _ _ fun _ => ?_)))
  · change _ ⊢ iprop(_ ∗ R)
    iintro ⟨Hres, ⟨Hx, Hy, Ho⟩, Hrest⟩
    isplitr [Hrest]
    · isplitl [Hres]; · iexact Hres
      isplitl [Hx]; · iexact Hx
      isplitl [Hy]; · iexact Hy
      iexact Ho
    · iexact Hrest
  · change iprop(_ ∗ R) ⊢ _
    iintro ⟨⟨Hres, Hx, Hy, Ho⟩, Hrest⟩
    isplitl [Hres]; · iexact Hres
    isplitr [Hrest]
    · isplitl [Hx]; · iexact Hx
      isplitl [Hy]; · iexact Hy
      iexact Ho
    · iexact Hrest

/-- The tile kernel: from a tile's rows, its scratches and semaphores, all the tile's rows of the result end at the
    sum, and everything else comes back. -/
theorem tile_body (d : Dev nD) (L : grid0.Coords) (hF : (K (F := F)).Facts) (x y : S262144x256.Idx → Elt F .f32) (g : S61440x256.Idx → Elt F .f32)
    (O : CellTallies nD τ sig (HIx 1)) (W : Waits sig (HIx 1)) (hO : ∀ c, O c none = 0) :
    iprop(levAts (K (F := F)).L (K (F := F)).lev ∗ emp ∗ tileRows d L x y g
        ∗ scopedBufs (thr d L) ∗ scopedSems0 (thr d L) ∗ owes (thr d L) O W)
      ⊢ wp frame (wpE (defs₀ (F := F)) 𝒱₀ (thr d L) none) Set.univ
          (cc0_body L xW (Memref.isWhole_whole _) yW (Memref.isWhole_whole _) oW (Memref.isWhole_whole _)
            aW (Memref.isWhole_whole _) bW (Memref.isWhole_whole _) cc0_scoped0 cc0_scoped1 cc0_scoped2)
          fun _ => iprop(tileRows d L x y (lowSum x y) ∗ scopedBufs (thr d L) ∗ scopedSems0 (thr d L)
            ∗ ∃ W', ⌜∀ p ∈ W', p ∈ W ∨ p.2 = none⌝ ∗ owes (thr d L) O W') := by
  have hin : (tileRows d L x y g : sProp 𝕄)
      = bigSep Finset.univ fun t : Fin k0_t1_loop.trips => chunk d L x y (if t.val < 0 then lowSum x y else g) t :=
    bigSep_congr fun t _ => by rw [if_neg (Nat.not_lt_zero _)]
  have hout : (tileRows d L x y (lowSum x y) : sProp 𝕄)
      = bigSep Finset.univ fun t : Fin k0_t1_loop.trips => chunk d L x y (if t.val < k0_t1_loop.trips then lowSum x y else g) t :=
    bigSep_congr fun t _ => by rw [if_pos t.isLt]
  rw [hin, hout]
  simp only [cc0_body_eq_skeleton]; unfold cc0_body_skel
  rw [(K (F := F)).scopedBufs_V hF d (cV L) (jV L), SparseCore.Cfg.scopedSems0_V (Val := Elt F) d (cV L) (jV L), ownSems_tile, ownBufs_tile]
  iintro ⟨#Hlv, -, Hrows, ⟨⟨%fa, Ha⟩, ⟨%fb, Hb⟩, Hbufs⟩, ⟨Hs0, Hs1, Hs2, Hsems⟩, HO⟩
  ihave Hmw := ((K (F := F)).mayWaits_none (thr := thr d L) hO) $$ Hlv
  sl_for (tileInv d L x y g O W) $$ [Hmw Hrows Ha Hb Hs0 Hs1 Hs2 HO]
  case region =>
    intro t _
    exact tile_trip d L x y g O W t
  · unfold tileInv tripRes
    isplitr [Hrows]
    swap; · iexact Hrows
    isplitl [Hmw]; · iexact Hmw
    isplitl [Ha]; · iexists fa; iexact Ha
    isplitl [Hb]; · iexists fb; iexact Hb
    isplitl [Hs0]; · iexact Hs0
    isplitl [Hs1]; · iexact Hs1
    isplitl [Hs2]; · iexact Hs2
    iexists W; isplitr
    · ipureintro; exact fun p hp => .inl hp
    · iexact HO
  iintro %_ HI
  unfold tileInv tripRes
  icases HI with ⟨⟨-, ⟨%fa', Ha⟩, ⟨%fb', Hb⟩, Hs0, Hs1, Hs2, HO⟩, Hrows⟩
  sl_step
  isplitl [Hrows]; · iexact Hrows
  isplitl [Ha Hb Hbufs]
  · isplitl [Ha]; · iexists fa'; iexact Ha
    isplitl [Hb]; · iexists fb'; iexact Hb
    iexact Hbufs
  isplitl [Hs0 Hs1 Hs2 Hsems]
  · isplitl [Hs0]; · iexact Hs0
    isplitl [Hs1]; · iexact Hs1
    isplitl [Hs2]; · iexact Hs2
    iexact Hsems
  iexact HO

end Cert.Proof.Sum

end
-- ==== Proof.Rows.lean ====
/-
  The result's low rows cut among the tiles: which rows each tile writes, that they are disjoint and that together they are
  all of them.
-/
module

public import proofs.«01_k».proof.Proof.Tile

@[expose] public section

noncomputable section

namespace Cert.Proof.Sum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S262144x256 EltTy.f32)
local notation "yW" => (Memref.whole Cert.KernelIdeal.main_arg1_scv : Memref Cert.KernelIdeal.sig Kind.scVector Space.hbm Cert.KernelIdeal.S262144x256 EltTy.f32)
local notation "oW" => (Memref.whole Cert.KernelIdeal.main_v0_scv : Memref Cert.KernelIdeal.sig Kind.scVector Space.hbm Cert.KernelIdeal.S61440x256 EltTy.f32)
local notation "aW" => (Memref.whole Cert.KernelIdeal.cc0_scratch0 : Memref Cert.KernelIdeal.sig Kind.scVector Space.vmem Cert.KernelIdeal.S128x256 EltTy.f32)
local notation "bW" => (Memref.whole Cert.KernelIdeal.cc0_scratch1 : Memref Cert.KernelIdeal.sig Kind.scVector Space.vmem Cert.KernelIdeal.S128x256 EltTy.f32)

/-- The grid coordinates of a SparseCore and a tile of it. -/
def coords (c : Fin (grid0.bound 0)) (s : Fin (grid0.bound 1)) : grid0.Coords :=
  fun | 0 => c | 1 => s | ⟨_ + 2, h⟩ => absurd h (Nat.not_lt.2 (Nat.le_add_left _ _))

/-- The first row of a tile's trip. -/
def base (L : grid0.Coords) (t : Fin k0_t1_loop.trips) : ℕ := 3840 * (L 1).val + 1920 * (L 0).val + 128 * t.val

/-- The rows a trip reads are the 128 rows from its first. -/
theorem mem_xS (L : grid0.Coords) (t : Fin k0_t1_loop.trips) (i : S262144x256.Idx) :
    i ∈ (xS L t).view.set ↔ base L t ≤ (i 0).val ∧ (i 0).val < base L t + 128 := by
  have e : (xS L t).view.set = (Rect.unit (s := S262144x256) (k0_off1 L t) S128x256.size (k0_off1_inb L t)).set := by
    show ((View.whole (main_arg0_scv : Ref sig .scVector)).slice _).set = _
    rw [View.set_slice]; exact Finset.map_refl
  rw [e, Rect.mem_set_unit, k0_off1_eq]
  constructor
  · intro h; exact h 0
  · intro h a
    match a with
    | 0 => exact h
    | 1 => exact ⟨Nat.zero_le _, lt_of_lt_of_le (i 1).isLt (show 256 ≤ 0 + 256 by decide)⟩

/-- The rows a trip writes are the same 128 rows. -/
theorem mem_oS (L : grid0.Coords) (t : Fin k0_t1_loop.trips) (i : S61440x256.Idx) :
    i ∈ (oS L t).view.set ↔ base L t ≤ (i 0).val ∧ (i 0).val < base L t + 128 := by
  have e : (oS L t).view.set = (Rect.unit (s := S61440x256) (k0_off18 L t) S128x256.size (k0_off18_inb L t)).set := by
    show ((View.whole (main_v0_scv : Ref sig .scVector)).slice _).set = _
    rw [View.set_slice]; exact Finset.map_refl
  rw [e, Rect.mem_set_unit, k0_off18_eq]
  constructor
  · intro h; exact h 0
  · intro h a
    match a with
    | 0 => exact h
    | 1 => exact ⟨Nat.zero_le _, lt_of_lt_of_le (i 1).isLt (show 256 ≤ 0 + 256 by decide)⟩

/-- A SparseCore, a tile of it and a trip of the tile. -/
abbrev Trip : Type := (Fin (grid0.bound 0) × Fin (grid0.bound 1)) × Fin k0_t1_loop.trips
/-- The first row of a trip, from its three numbers. -/
def first (p : Trip) : ℕ := base (coords p.1.1 p.1.2) p.2

/-- A tile makes fifteen trips. -/
theorem trips_eq : k0_t1_loop.trips = 15 := by decide

/-- Two trips that use a row in common are the same trip. -/
theorem trip_unique {p p' : Trip} {r : ℕ} (h : first p ≤ r ∧ r < first p + 128) (h' : first p' ≤ r ∧ r < first p' + 128) : p = p' := by
  obtain ⟨⟨c, s⟩, t⟩ := p
  obtain ⟨⟨c', s'⟩, t'⟩ := p'
  have hc : c.val < 2 := c.isLt
  have hc' : c'.val < 2 := c'.isLt
  have ht : t.val < 15 := trips_eq ▸ t.isLt
  have ht' : t'.val < 15 := trips_eq ▸ t'.isLt
  change 3840 * s.val + 1920 * c.val + 128 * t.val ≤ r ∧ r < 3840 * s.val + 1920 * c.val + 128 * t.val + 128 at h
  change 3840 * s'.val + 1920 * c'.val + 128 * t'.val ≤ r ∧ r < 3840 * s'.val + 1920 * c'.val + 128 * t'.val + 128 at h'
  have e1 : s.val = s'.val := by omega
  have e2 : c.val = c'.val := by omega
  have e3 : t.val = t'.val := by omega
  rw [Fin.ext e1, Fin.ext e2, Fin.ext e3]

/-- Every row below 61440 is used in some trip. -/
theorem trip_exists (r : ℕ) (hr : r < 61440) : ∃ p : Trip, first p ≤ r ∧ r < first p + 128 := by
  refine ⟨((⟨r % 3840 / 1920, (by omega : r % 3840 / 1920 < 2)⟩, ⟨r / 3840, (by omega : r / 3840 < 16)⟩), ⟨r % 1920 / 128, by rw [trips_eq]; omega⟩), ?_⟩
  show 3840 * (r / 3840) + 1920 * (r % 3840 / 1920) + 128 * (r % 1920 / 128) ≤ r
    ∧ r < 3840 * (r / 3840) + 1920 * (r % 3840 / 1920) + 128 * (r % 1920 / 128) + 128
  omega

/-- An array held whole is held trip by trip, over pairwise disjoint sets of elements, beside the elements of no trip. -/
theorem split_trips {ℓ : Loc nD τ sig} (f : Buf (Elt F) ℓ) (E : Trip → Finset (Idx ℓ)) (h : ∀ p p', p ≠ p' → Disjoint (E p) (E p')) :
    (ℓ ↦{fullShare} f : sProp 𝕄)
      = iprop((bigSep Finset.univ fun c => bigSep Finset.univ fun s => bigSep Finset.univ fun t => ℓ ↦[E ((c, s), t)]{fullShare} f)
          ∗ ℓ ↦[Finset.univ \ Finset.univ.biUnion E]{fullShare} f) := by
  have hs := pointsTo_split_subset (ℓ := ℓ) (q := fullShare) (f := f) (Ix := HIx 1) (Name := ℕ) (U := UU) (Lvl := ℕ) (Finset.subset_univ (Finset.univ.biUnion E))
  refine (equiv_iff.mp ⟨hs.1, hs.2⟩).trans ?_
  rw [pointsTo_biUnion Finset.univ E fun p _ p' _ => h p p', ← Finset.univ_product_univ, SparseCore.bigSep_product,
    ← Finset.univ_product_univ, SparseCore.bigSep_product]

/-- The elements of the first argument of a trip, and of the result. -/
def xE (p : Trip) : Finset S262144x256.Idx := (xS (coords p.1.1 p.1.2) p.2).view.set
def oE (p : Trip) : Finset S61440x256.Idx := (oS (coords p.1.1 p.1.2) p.2).view.set

/-- Different trips read different rows of an argument. -/
theorem xE_disjoint (p p' : Trip) (h : p ≠ p') : Disjoint (xE p) (xE p') :=
  Finset.disjoint_left.mpr fun i hi hi' => h (trip_unique ((mem_xS _ _ i).mp hi) ((mem_xS _ _ i).mp hi'))
/-- Different trips write different rows of the result's low half. -/
theorem oE_disjoint (p p' : Trip) (h : p ≠ p') : Disjoint (oE p) (oE p') :=
  Finset.disjoint_left.mpr fun i hi hi' => h (trip_unique ((mem_oS _ _ i).mp hi) ((mem_oS _ _ i).mp hi'))

/-- The trips cover the result. -/
theorem oE_cover : (Finset.univ \ Finset.univ.biUnion oE : Finset S61440x256.Idx) = ∅ := by
  refine Finset.sdiff_eq_empty_iff_subset.mpr fun i _ => ?_
  obtain ⟨p, hp⟩ := trip_exists (i 0).val (i 0).isLt
  exact Finset.mem_biUnion.mpr ⟨p, Finset.mem_univ p, (mem_oS _ _ i).mpr hp⟩

/-- The elements of the arguments that no trip reads. -/
def restE : Finset S262144x256.Idx := Finset.univ \ Finset.univ.biUnion xE

/-- Three splittings side by side, regrouped. -/
theorem regroup (A B C A' B' : sProp 𝕄) : (iprop((A ∗ A') ∗ (B ∗ B') ∗ (C ∗ emp)) : sProp 𝕄) = iprop((A ∗ B ∗ C) ∗ A' ∗ B') := by
  have h1 : (iprop((A ∗ A') ∗ (B ∗ B') ∗ (C ∗ emp)) : sProp 𝕄) ⊢ iprop((A ∗ B ∗ C) ∗ A' ∗ B') := by
    iintro ⟨⟨HA, HA'⟩, ⟨HB, HB'⟩, HC, -⟩
    isplitl [HA HB HC]
    · isplitl [HA]; · iexact HA
      isplitl [HB]; · iexact HB
      iexact HC
    isplitl [HA']; · iexact HA'
    iexact HB'
  have h2 : (iprop((A ∗ B ∗ C) ∗ A' ∗ B') : sProp 𝕄) ⊢ iprop((A ∗ A') ∗ (B ∗ B') ∗ (C ∗ emp)) := by
    iintro ⟨⟨HA, HB, HC⟩, HA', HB'⟩
    isplitl [HA HA']
    · isplitl [HA]; · iexact HA
      iexact HA'
    isplitl [HB HB']
    · isplitl [HB]; · iexact HB
      iexact HB'
    isplitl [HC]; · iexact HC
    iempintro
  exact equiv_iff.mp ⟨h1, h2⟩

/-- The two arguments and the result, held whole, are every tile's rows beside the arguments' rows no tile reads. -/
theorem arrays_split (d : Dev nD) (x y : S262144x256.Idx → Elt F .f32) (g : S61440x256.Idx → Elt F .f32) :
    (iprop((xLoc d ↦{fullShare} x) ∗ (yLoc d ↦{fullShare} y) ∗ (oLoc d ↦{fullShare} g)) : sProp 𝕄)
      = iprop((bigSep Finset.univ fun c => bigSep Finset.univ fun s => tileRows d (coords c s) x y g)
          ∗ (xLoc d ↦[restE]{fullShare} x) ∗ (yLoc d ↦[restE]{fullShare} y)) := by
  have hx := split_trips (ℓ := xLoc d) x xE xE_disjoint
  have hy := split_trips (ℓ := yLoc d) y xE xE_disjoint
  have ho := split_trips (ℓ := oLoc d) g oE oE_disjoint
  rw [oE_cover, pointsTo_empty] at ho
  have ht : ∀ c s, (tileRows d (coords c s) x y g : sProp 𝕄)
      = iprop((bigSep Finset.univ fun t => xLoc d ↦[xE ((c, s), t)]{fullShare} x)
        ∗ (bigSep Finset.univ fun t => yLoc d ↦[xE ((c, s), t)]{fullShare} y)
        ∗ (bigSep Finset.univ fun t => oLoc d ↦[oE ((c, s), t)]{fullShare} g)) := by
    intro c s
    rw [← bigSep_sep', ← bigSep_sep']
    rfl
  simp only [ht]
  simp only [bigSep_sep']
  rw [hx, hy, ho]
  exact regroup _ _ _ _ _

end Cert.Proof.Sum

end
-- ==== Proof.Tasks.lean ====
/-
  The SparseCore launch as a whole: what the sequencers and the tiles are handed, and what the launch leaves in the result.
-/
module

public import proofs.«01_k».proof.Proof.Rows

@[expose] public section

noncomputable section

namespace Cert.Proof.Sum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S262144x256 EltTy.f32)
local notation "yW" => (Memref.whole Cert.KernelIdeal.main_arg1_scv : Memref Cert.KernelIdeal.sig Kind.scVector Space.hbm Cert.KernelIdeal.S262144x256 EltTy.f32)
local notation "oW" => (Memref.whole Cert.KernelIdeal.main_v0_scv : Memref Cert.KernelIdeal.sig Kind.scVector Space.hbm Cert.KernelIdeal.S61440x256 EltTy.f32)
local notation "aW" => (Memref.whole Cert.KernelIdeal.cc0_scratch0 : Memref Cert.KernelIdeal.sig Kind.scVector Space.vmem Cert.KernelIdeal.S128x256 EltTy.f32)
local notation "bW" => (Memref.whole Cert.KernelIdeal.cc0_scratch1 : Memref Cert.KernelIdeal.sig Kind.scVector Space.vmem Cert.KernelIdeal.S128x256 EltTy.f32)

variable (m : (ℓ : Loc nD τ sig) → Buf (Elt F) ℓ)

/-! ## What the handshakes carry -/

/-- The launch uses the kernel grid's SparseCores. -/
theorem cores_eq : (K (F := F)).nCore 0 = grid0.bound 0 := rfl
/-- The launch uses the kernel grid's tiles. -/
theorem tiles_eq : (K (F := F)).nSub 0 = grid0.bound 1 := rfl

/-- A tile's rows as it is started: the arguments and the result as the memory first holds them. -/
@[irreducible] def given (d : Dev nD) (c : Fin (grid0.bound 0)) (s : Fin (grid0.bound 1)) : sProp 𝕄 :=
  tileRows d (coords c s) (m (xLoc d)) (m (yLoc d)) (m (oLoc d))
/-- A tile's rows as it ends: its rows of the result hold the sum. -/
@[irreducible] def returned (d : Dev nD) (c : Fin (grid0.bound 0)) (s : Fin (grid0.bound 1)) : sProp 𝕄 :=
  tileRows d (coords c s) (m (xLoc d)) (m (yLoc d)) (lowSum (m (xLoc d)) (m (yLoc d)))

/-- The one call's payloads: a SparseCore is handed its tiles' rows, and each tile its own. -/
def P : (K (F := F)).Pay (nD := nD) (Val := Elt F) (Name := ℕ) (U := UU) where
  st := fun q d c => match q with | 0 => bigSep Finset.univ fun s : Fin ((K (F := F)).nSub 0) => given m d (Fin.cast cores_eq c) (Fin.cast tiles_eq s)
  dn := fun q d c => match q with | 0 => bigSep Finset.univ fun s : Fin ((K (F := F)).nSub 0) => returned m d (Fin.cast cores_eq c) (Fin.cast tiles_eq s)
  go := fun q d c s => match q with | 0 => given m d (Fin.cast cores_eq c) (Fin.cast tiles_eq s)
  td := fun q d c s => match q with | 0 => returned m d (Fin.cast cores_eq c) (Fin.cast tiles_eq s)
  x := fun _ _ => iprop(emp)

/-- What a tile is given may be handed over. -/
instance given_storable (d : Dev nD) (c : Fin (grid0.bound 0)) (s : Fin (grid0.bound 1)) : BI.Storable (upEmb : UEmb _ 𝕄) (given m d c s) := by
  unfold given tileRows chunk; infer_instance
/-- What a tile gives back may be handed over. -/
instance returned_storable (d : Dev nD) (c : Fin (grid0.bound 0)) (s : Fin (grid0.bound 1)) : BI.Storable (upEmb : UEmb _ 𝕄) (returned m d c s) := by
  unfold returned tileRows chunk; infer_instance

/-- Everything the launch's handshakes carry may be handed over. -/
instance P_storable : (P (F := F) m).IsStorable where
  st q d c := match q with
    | 0 => (inferInstance : BI.Storable (upEmb : UEmb _ 𝕄) (bigSep Finset.univ fun s : Fin ((K (F := F)).nSub 0) => given m d (Fin.cast cores_eq c) (Fin.cast tiles_eq s)))
  dn q d c := match q with
    | 0 => (inferInstance : BI.Storable (upEmb : UEmb _ 𝕄) (bigSep Finset.univ fun s : Fin ((K (F := F)).nSub 0) => returned m d (Fin.cast cores_eq c) (Fin.cast tiles_eq s)))
  go q d c s := match q with | 0 => given_storable m d (Fin.cast cores_eq c) (Fin.cast tiles_eq s)
  td q d c s := match q with | 0 => returned_storable m d (Fin.cast cores_eq c) (Fin.cast tiles_eq s)

/-! ## The tile's obligation and the split of a SparseCore's rows -/

/-- The body that a tile runs is the kernel's at that tile's coordinates. -/
theorem defs₀_vector (c : Fin τ.nSC) (s : Fin τ.nSub) :
    defs₀ (F := F) (.scVector c s) 0 ()
      = SparseCore.onTile hcore0 hsub0 (fun c s => cc0_body (coords c s)
          xW (Memref.isWhole_whole _) yW (Memref.isWhole_whole _) oW (Memref.isWhole_whole _)
          aW (Memref.isWhole_whole _) bW (Memref.isWhole_whole _) cc0_scoped0 cc0_scoped1 cc0_scoped2) ⟨⟩ c s := rfl

/-- A tile waits on nothing of the call's own, so its waits are among those the launch allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile, started with its rows, ends with its rows summed. -/
theorem tileObl (hF : (K (F := F)).Facts) : (K (F := F)).TileObl (D (F := F)) 𝒱 (P m) v₀ 0 := by
  intro d c i O W hO _ _
  simp only [show (P (F := F) m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hg : given m d (Fin.cast cores_eq c) (Fin.cast tiles_eq i) = tileRows d (coords ⟨c.val, hc.1⟩ ⟨i.val, hc.2⟩) (m (xLoc d)) (m (yLoc d)) (m (oLoc d)) := by unfold given; rfl
  have hr : returned m d (Fin.cast cores_eq c) (Fin.cast tiles_eq i) = tileRows d (coords ⟨c.val, hc.1⟩ ⟨i.val, hc.2⟩) (m (xLoc d)) (m (yLoc d)) (lowSum (m (xLoc d)) (m (yLoc d))) := by unfold returned; rfl
  simp only [show (P m).go 0 d c i = given m d (Fin.cast cores_eq c) (Fin.cast tiles_eq i) from rfl, show (P m).td 0 d c i = returned m d (Fin.cast cores_eq c) (Fin.cast tiles_eq i) from rfl, hg, hr]
  exact (tile_body d (coords ⟨_, hc.1⟩ ⟨_, hc.2⟩) hF (m (xLoc d)) (m (yLoc d)) (m (oLoc d)) O W hO).trans (wp_mono frame _ _ fun _ => waits_weaken)

/-- A SparseCore's rows are its tiles' rows. -/
theorem vecSplit : (K (F := F)).VecSplit' (P m) 0 := by
  intro d c
  change (bigSep Finset.univ fun s : Fin ((K (F := F)).nSub 0) => given m d (Fin.cast cores_eq c) (Fin.cast tiles_eq s))
    ⊢ |={Set.univ}=> iprop((bigSep Finset.univ fun s : Fin ((K (F := F)).nSub 0) => given m d (Fin.cast cores_eq c) (Fin.cast tiles_eq s))
      ∗ ((bigSep Finset.univ fun s : Fin ((K (F := F)).nSub 0) => returned m d (Fin.cast cores_eq c) (Fin.cast tiles_eq s))
        -∗ bigSep Finset.univ fun s : Fin ((K (F := F)).nSub 0) => returned m d (Fin.cast cores_eq c) (Fin.cast tiles_eq s)))
  iintro H
  imodintro
  isplitl [H]; · iexact H
  iintro H
  iexact H

/-- What the call is given, over both SparseCores, and what it gives back. -/
theorem st_eq (d : Dev nD) : (bigSep Finset.univ fun c : Fin ((K (F := F)).nCore 0) => (P m).st 0 d c)
    = (bigSep Finset.univ fun c : Fin ((K (F := F)).nCore 0) => bigSep Finset.univ fun s : Fin ((K (F := F)).nSub 0) =>
        given m d (Fin.cast cores_eq c) (Fin.cast tiles_eq s) : sProp 𝕄) := rfl
/-- What the launch hands back, over the kernel grid's SparseCores. -/
theorem dn_eq (d : Dev nD) : (bigSep Finset.univ fun c : Fin ((K (F := F)).nCore 0) => (P m).dn 0 d c)
    = (bigSep Finset.univ fun c : Fin ((K (F := F)).nCore 0) => bigSep Finset.univ fun s : Fin ((K (F := F)).nSub 0) =>
        returned m d (Fin.cast cores_eq c) (Fin.cast tiles_eq s) : sProp 𝕄) := rfl

/-- The same assertion over the numbers below `n` and below an equal number. -/
theorem bigSep_cast {n k : ℕ} (h : n = k) (Φ : Fin k → sProp 𝕄) :
    (bigSep Finset.univ fun i : Fin n => Φ (Fin.cast h i)) = bigSep Finset.univ Φ := by subst h; rfl

/-- The arguments and the result as the memory first holds them are what the call is given, beside the rows no tile
    reads. -/
theorem arrays_st (d : Dev nD) :
    (iprop((xLoc d ↦{fullShare} m (xLoc d)) ∗ (yLoc d ↦{fullShare} m (yLoc d)) ∗ (oLoc d ↦{fullShare} m (oLoc d))) : sProp 𝕄)
      = iprop((bigSep Finset.univ fun c : Fin ((K (F := F)).nCore 0) => (P m).st 0 d c)
          ∗ (xLoc d ↦[restE]{fullShare} m (xLoc d)) ∗ (yLoc d ↦[restE]{fullShare} m (yLoc d))) := by
  have e : (bigSep Finset.univ fun c : Fin ((K (F := F)).nCore 0) => (P m).st 0 d c)
      = (bigSep Finset.univ fun c => bigSep Finset.univ fun s => tileRows d (coords c s) (m (xLoc d)) (m (yLoc d)) (m (oLoc d)) : sProp 𝕄) := by
    rw [st_eq, bigSep_cast cores_eq fun c => bigSep Finset.univ fun s : Fin ((K (F := F)).nSub 0) => given m d c (Fin.cast tiles_eq s)]
    refine bigSep_congr fun c _ => ?_
    rw [bigSep_cast tiles_eq fun s => given m d c s]
    unfold given
    rfl
  rw [e]
  exact arrays_split d _ _ _

/-- What the call gives back, beside the rows no tile reads, is the arguments as they were and the result at the sum. -/
theorem arrays_dn (d : Dev nD) :
    (iprop((xLoc d ↦{fullShare} m (xLoc d)) ∗ (yLoc d ↦{fullShare} m (yLoc d)) ∗ (oLoc d ↦{fullShare} lowSum (m (xLoc d)) (m (yLoc d)))) : sProp 𝕄)
      = iprop((bigSep Finset.univ fun c : Fin ((K (F := F)).nCore 0) => (P m).dn 0 d c)
          ∗ (xLoc d ↦[restE]{fullShare} m (xLoc d)) ∗ (yLoc d ↦[restE]{fullShare} m (yLoc d))) := by
  have e : (bigSep Finset.univ fun c : Fin ((K (F := F)).nCore 0) => (P m).dn 0 d c)
      = (bigSep Finset.univ fun c => bigSep Finset.univ fun s => tileRows d (coords c s) (m (xLoc d)) (m (yLoc d)) (lowSum (m (xLoc d)) (m (yLoc d))) : sProp 𝕄) := by
    rw [dn_eq, bigSep_cast cores_eq fun c => bigSep Finset.univ fun s : Fin ((K (F := F)).nSub 0) => returned m d c (Fin.cast tiles_eq s)]
    refine bigSep_congr fun c _ => ?_
    rw [bigSep_cast tiles_eq fun s => returned m d c s]
    unfold returned
    rfl
  rw [e]
  exact arrays_split d _ _ _

end Cert.Proof.Sum

end
-- ==== Proof.Run.lean ====
/-
  The whole program's run: the SparseCore launch, the TensorCore call and the concatenation, put together.
-/
module

public import proofs.«01_k».proof.Proof.Join
public import proofs.«01_k».proof.Proof.Tasks

@[expose] public section

noncomputable section

namespace Cert.Proof.Sum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Rounds (initOf)

variable (m : (ℓ : Loc nD τ sig) → Buf (Elt F) ℓ) (ρ : Dev nD → PrngReg)

/-! ## The ghost state of the launch -/

/-- The launch's ghost state: the handshakes' rounds, the pipeline's rounds, no counter. -/
def u₀ : UU := (initOf (K (F := F)).hsCells (K (F := F)).hsToks,
  (initOf (Pipeline.cells (Pipeline.pin (pcfgs (F := F)) adm) ((launch1.toP (Val := Elt F)).cellOf_inj adm))
    (Pipeline.launchToks (Pipeline.pin (pcfgs (F := F)) adm) ((launch1.toP (Val := Elt F)).cellOf_inj adm)), 1))

/-- The kernel's own threads take nothing beside their operands. -/
theorem no_extra : (iprop(emp) : sProp 𝕄) ⊢ bigSep Finset.univ fun thr : Thread nD τ => bigSep Finset.univ fun q : Fin 1 => (P m).x q thr := by
  have h : (bigSep Finset.univ fun thr : Thread nD τ => bigSep Finset.univ fun q : Fin 1 => (P m).x q thr) = (iprop(emp) : sProp 𝕄) := by
    rw [show (fun thr : Thread nD τ => bigSep Finset.univ fun q : Fin 1 => (P m).x q thr) = fun _ => (iprop(emp) : sProp 𝕄) from
      funext fun thr => bigSep_emp_const _]
    exact bigSep_emp_const _
  exact Entails.of_eq h.symm

/-- The pipeline's part of the state beside the handshakes'. -/
theorem own_pipeline (a : UP) (b : Counters) : (BI.own ((embR : Emb (UP × Counters) 𝕄) (a, b)) : sProp 𝕄) ⊢ BI.own ((EP : Emb UP 𝕄) a) := by
  unfold EP
  exact (own_pair_emb (embR : Emb (UP × Counters) 𝕄) a b).trans sep_elim_left

/-- The launch's ghost state, dealt: the handshakes' to the launch, each device's pipeline its own. -/
theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HP := (own_pipeline _ _) $$ HR
  imod (Pipeline.fund_ghost (Pipeline.pin (pcfgs (F := F)) adm) (EP : Emb UP 𝕄) ((launch1.toP (Val := Elt F)).cellOf_inj adm)) $$ HP with ⟨Hg, Ht⟩
  imodintro
  isplitl [HH]; · iexact HH
  isplitl [Hg Ht]
  · unfold ghost
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  iapply (no_extra m)
  iempintro

/-! ## The TensorCore's program -/

/-- The TensorCore's arrays, one by one. -/
theorem arrays_five (d : Dev nD) (W : (b : Ref sig .tc) → Buf (Elt F) ((d.tc : Thread nD τ).loc b)) :
    (unscopedBufs d W : sProp 𝕄) = iprop((xLoc d ↦{fullShare} W main_arg0) ∗ (yLoc d ↦{fullShare} W main_arg1) ∗ (oLoc d ↦{fullShare} W main_v0)
      ∗ (pLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- With one SparseCore call behind it, every wait the TensorCore has recorded is below the next call's. -/
theorem waits_low (d : Dev nD) (W : Waits sig (HIx 1)) : (K (F := F)).WBelow (SparseCore.T d) W (8 * 1) := by
  intro p _
  match h : p.2 with
  | none => exact Nat.zero_le _
  | some q => exact ((K (F := F)).lev_some_le _ q).trans (by have := q.isLt; omega)

/-- What the program leaves: the arguments as they were, the result at their sum. -/
abbrev FIN (d : Dev nD) : sProp 𝕄 :=
  iprop((xLoc d ↦{fullShare} m (xLoc d)) ∗ (yLoc d ↦{fullShare} m (yLoc d)) ∗ (rLoc d ↦{fullShare} total (m (xLoc d)) (m (yLoc d))))

/-- The program on a device's TensorCore: the SparseCore call, the TensorCore call, the concatenation. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_five]
  simp only [main, wp_bind, wp_pure]
  iintro ⟨#Hctx, Hst, ⟨Hb, ⟨Hx, Hy, Ho, Hp, Hr⟩, Hts, -⟩, HG⟩
  ihave H := (Entails.of_eq (arrays_st m d)) $$ [Hx Hy Ho]
  · isplitl [Hx]; · iexact Hx
    isplitl [Hy]; · iexact Hy
    iexact Ho
  icases H with ⟨Hpay, Hxr, Hyr⟩
  iapply ((K (F := F)).wp_run (D (F := F)) 𝒱 (EH := EH) (P := P m) κ d 0) $$ [Hst Hpay Hxr Hyr Hp Hr Hb Hts HG]
  isplitr; · iexact Hctx
  isplitl [Hst]; · iexact Hst
  isplitl [Hpay]; · iexact Hpay
  iintro ⟨Hst, Hdn⟩
  ihave H := (Entails.of_eq (arrays_dn m d).symm) $$ [Hdn Hxr Hyr]
  · isplitl [Hdn]; · iexact Hdn
    isplitl [Hxr]; · iexact Hxr
    iexact Hyr
  icases H with ⟨Hx, Hy, Ho⟩
  unfold SparseCore.Cfg.tcSt
  rw [show ((0 : Fin 1).val + 1) = 1 from rfl]
  rw [(K (F := F)).Otc_end d (le_refl 1)]
  icases Hst with ⟨⟨%W, %hW, HO⟩, Hst⟩
  iapply (tc_call m d _)
  isplitr [Hb Hx Hy Hp HO HG]
  · iintro ⟨Hb, ⟨Hx, Hy, Hp⟩, ⟨%W', HO⟩⟩
    iapply (join_step m d _)
    isplitr [Hb Ho Hp Hr]
    · iintro ⟨Hb, -, -, Hr⟩
      imodintro
      isplitl [HO Hst]
      · isplitl [HO]
        · iexists W'; isplitr; · ipureintro; exact waits_low (F := F) d W'
          iexact HO
        iexact Hst
      isplitl [Hx Hy Hr]
      · isplitl [Hx]; · iexact Hx
        isplitl [Hy]; · iexact Hy
        iexact Hr
      isplitl [Hb]; · iexact Hb
      iexact Hts
    isplitl [Hb]; · iexact Hb
    isplitl [Ho]; · iexact Ho
    isplitl [Hp]; · iexact Hp
    iexact Hr
  isplitl [Hb]; · iexact Hb
  isplitl [Hx Hy Hp]
  · isplitl [Hx]; · iexact Hx
    isplitl [Hy]; · iexact Hy
    iexact Hp
  isplitl [HO]; · iexists W; iexact HO
  isplitr; · iapply ((K (F := F)).ctx_levAts κ); iexact Hctx
  iexact HG

/-! ## The run -/

/-- What is read of a device's final state. -/
def fq (d : Dev nD) (s' : Phys nD τ sig (Elt F)) : Prop :=
  s'.mem.mem (rLoc d) = total (m (xLoc d)) (m (yLoc d)) ∧ s'.mem.mem (xLoc d) = m (xLoc d) ∧ s'.mem.mem (yLoc d) = m (yLoc d)

/-- What the main program ends with gives the result and the two arguments as the final memory holds them. -/
theorem hfin (d : Dev nD) (s' : Phys nD τ sig (Elt F)) : iprop(FIN m d ∗ SI s') ⊢ (⌜fq m d s'⌝ : sProp 𝕄) := by
  iintro ⟨⟨Hx, Hy, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := yLoc d) (I := Finset.univ) (q := fullShare) (f := m (yLoc d)))) $$ [HSI Hy]
  · isplitl [HSI] <;> iassumption
  icases H with ⟨%hy, HSI, -⟩
  ihave H := (SI_pointsTo_agree (st := s') (ℓ := rLoc d) (I := Finset.univ) (q := fullShare) (f := total (m (xLoc d)) (m (yLoc d)))) $$ [HSI Hr]
  · isplitl [HSI] <;> iassumption
  icases H with %hr
  ipureintro
  exact ⟨funext fun i => hr i (Finset.mem_univ i), funext fun i => hx i (Finset.mem_univ i), funext fun i => hy i (Finset.mem_univ i)⟩

/-- What the whole run is shown to end with: on every device the result at the sum of the arguments and the arguments
    as they were; every semaphore's counter at zero. -/
def QC : PUnit × MemSt nD τ sig (Elt F) → Prop := fun r =>
  (∀ d : Dev nD, r.2.mem (rLoc d) = total (m (xLoc d)) (m (yLoc d)) ∧ r.2.mem (xLoc d) = m (xLoc d) ∧ r.2.mem (yLoc d) = m (yLoc d))
    ∧ r.2.sem = fun _ => 0

/-- The program runs to its end without fault, and ends so. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => ghost (F := F) d) (FIN m) (u₀ (F := F)) (sep_elim_left.trans (hu₀ m)) (hmain m ρ) (fq m) (hfin m) (QC m) (fun _ h hz => ⟨h, hz⟩)

end Cert.Proof.Sum

end
-- ==== Proof.Same.lean ====
/-
  The program as printed and its idealization have the same text: at machine floats their tables of bodies are equal.
-/
module

public import proofs.«01_k».proof.Defs
public import proofs.«01_k».proof.Proof.Gen.Kernel
public import proofs.«01_k».proof.Proof.Gen.KernelIdeal

@[expose] public section

noncomputable section

namespace Cert.Proof

open Idealize.ShloMosaic

/-- On every processor the two programs give a label the same kernel body. -/
theorem bodies_same : Cert.Kernel.defs₀ (F := Bits) = Cert.KernelIdeal.defs₀ (F := Bits) := by
  funext p l a
  cases p <;> (match l, a with
    | 0, _ => rfl
    | 1, _ => rfl)

/-- The two programs' whole tables, with the TensorCore pipeline's entries and the SparseCore launch's, are the same. -/
theorem defs_same : Cert.Kernel.defs (F := Bits) = Cert.KernelIdeal.defs (F := Bits) :=
  congrArg (fun D => Cert.KernelIdeal.sc.defs (Pipeline.defs (Cert.KernelIdeal.pcfgs (F := Bits)) D)) bodies_same

end Cert.Proof

end
-- ==== Proof.lean ====
/-
  The claims, read off two runs: the program's (Proof/Run.lean, written once for any float values) and the
  reference's one addition.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same

@[expose] public section

noncomputable section

namespace Cert.Proof

open Idealize.ShloMosaic Idealize.SL.Sem

/-- The program as printed ends with its arguments as they were and every counter at zero: its table of bodies is the
    idealized program's, whose run is read here at machine floats. -/
theorem frame_kernel : Cert.quiescent_Kernel := by
  intro m ρ _
  rw [defs_same]
  exact (θ_run (Cert.KernelIdeal.defs (F := Bits)) _ _).mono (fun _ h => ⟨fun c => (h.1 c).2, h.2⟩)
    (Sum.run_main (F := Bits) m ρ)

/-- The idealized program ends with its arguments as they were and every counter at zero. -/
theorem frame_ideal : Cert.quiescent_KernelIdeal := fun m ρ _ =>
  (θ_run Cert.KernelIdeal.defs _ _).mono (fun _ h => ⟨fun c => (h.1 c).2, h.2⟩) (Sum.run_main (F := Ideal) m ρ)

/-- The reference ends with its arguments as they were; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments the idealized program and the reference end with the same result: their sum, at every
    index. -/
theorem algebraic : Cert.algebraic_KernelIdeal_ReferenceIdeal := fun m ρ m' ρ' _ same =>
  ⟨fun c => Sum.total (F := Ideal) (m (Sum.xLoc c)) (m (Sum.yLoc c)),
    (θ_run Cert.KernelIdeal.defs _ _).mono (fun _ h => h.1) (Sum.run_main (F := Ideal) m ρ),
    (θ_run Cert.ReferenceIdeal.defs _ _).mono
      (fun _ h c => ⟨(h c).1.trans (congrArg₂ (Sum.total (F := Ideal)) (same c).1 (same c).2), (h c).2⟩)
      (Cert.ReferenceIdeal.Value.run (F := Ideal) m' ρ')⟩

/-- Everything the certificate claims. -/
theorem claim : Cert.Claim :=
  ⟨Cert.Kernel.Gen.facts, Cert.KernelIdeal.Gen.facts, Cert.ReferenceIdeal.Gen.facts,
    ⟨frame_kernel, frame_ideal, frame_reference, trivial, algebraic⟩⟩

end Cert.Proof

end
